-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_settled [hPre_settled : Cert.Pre_settled.Facts] (m : (ℓ : Loc Cert.KernelIdeal.nD Cert.KernelIdeal.τ Cert.KernelIdeal.sig) → Buf (Elt Ideal) ℓ) : Prop :=
  ∀ c : Dev Cert.KernelIdeal.nD,
    (Cert.Pre_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_settled [hPre_settled : Cert.Pre_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_settled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_settled [hKernelIdeal : Cert.KernelIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_settled [hReferenceIdeal : Cert.ReferenceIdeal.Facts] [hPre_settled : Cert.Pre_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_settled [hKernelIdeal : Cert.KernelIdeal.Facts] [hReferenceIdeal : Cert.ReferenceIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_settled : Cert.Pre_settled.Facts),
    quiescent_Kernel (hKernel := hKernel)
    ∧ quiescent_KernelIdeal (hKernelIdeal := hKernelIdeal)
    ∧ quiescent_KernelIdeal_pre_settled (hKernelIdeal := hKernelIdeal) (hPre_settled := hPre_settled)
    ∧ quiescent_ReferenceIdeal (hReferenceIdeal := hReferenceIdeal)
    ∧ quiescent_ReferenceIdeal_pre_settled (hReferenceIdeal := hReferenceIdeal) (hPre_settled := hPre_settled)
    ∧ preserves_Kernel_KernelIdeal
    ∧ algebraic_KernelIdeal_ReferenceIdeal_pre_settled (hKernelIdeal := hKernelIdeal) (hReferenceIdeal := hReferenceIdeal) (hPre_settled := hPre_settled)
-- ==== Pre_settled.lean ====
abbrev S128x32768 : Shape := ⟨2, ![128, 32768]⟩
abbrev S_ : Shape := ⟨0, ![]⟩
abbrev S128 : Shape := ⟨1, ![128]⟩
abbrev S128x1 : Shape := ⟨2, ![128, 1]⟩

class Facts : Prop where
  bcast_S_S128x32768 : S_.BroadcastsInDim S128x32768 (![] : Fin 0 → Fin S128x32768.rank)
  reducesTo_S128x32768_S128_d1 : S128x32768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32768_0_1 : S128x1.BroadcastsInDim S128x32768 (![0, 1] : Fin 2 → Fin S128x32768.rank)

variable [Facts]

def fn_where {F : FTy → Type} [FloatOps F] (arg0 : IVec S128x32768 1) (arg1 : FVec F S128x32768 .f32) (arg2 : FVec F S_ .f32) : FVec F S128x32768 .f32 :=
  let v0 : FVec F S_ .f32 := id arg2
  let v1 : FVec F S128x32768 .f32 := broadcastInDim S128x32768 ![] bcast_S_S128x32768 v0
  let v2 : FVec F S128x32768 .f32 := select arg0 arg1 v1
  v2

def fn_where_0 {F : FTy → Type} [FloatOps F] (arg0 : IVec S128x32768 1) (arg1 : FVec F S_ .f32) (arg2 : FVec F S_ .f32) : FVec F S128x32768 .f32 :=
  let v0 : FVec F S128x32768 .f32 := broadcastInDim S128x32768 ![] bcast_S_S128x32768 arg1
  let v1 : FVec F S128x32768 .f32 := broadcastInDim S128x32768 ![] bcast_S_S128x32768 arg2
  let v2 : FVec F S128x32768 .f32 := select arg0 v0 v1
  v2

def fn_where_1 {F : FTy → Type} [FloatOps F] (arg0 : IVec S128x32768 1) (arg1 : FVec F S128x32768 .f32) (arg2 : FVec F S_ .f32) : FVec F S128x32768 .f32 :=
  let v0 : FVec F S_ .f32 := id arg2
  let v1 : FVec F S128x32768 .f32 := broadcastInDim S128x32768 ![] bcast_S_S128x32768 v0
  let v2 : FVec F S128x32768 .f32 := select arg0 arg1 v1
  v2

def fn_part5 {F : FTy → Type} [FloatOps F] (main_v0 : FVec F S128x32768 .f32) (main_v71 : IVec S128x1 1) (main_v73 : IVec S128x32768 1) (main_v75 : IVec S128x32768 1) (main_v79 : FVec F S128x1 .f32) (main_cst_38 : FVec F S_ .f32) : IVec S128x32768 1 :=
  let main_v80 : FVec F S128x32768 .f32 := fn_where_1 (F := F) main_v75 main_v0 main_cst_38
  let main_cst_39 : FVec F S_ .f32 := constant S_ .f32 0x00000000#32
  let main_v81 : FVec F S128 .f32 := (fun x v => Host.reduceAdd x v reducesTo_S128x32768_S128_d1 h_S_) main_v80 main_cst_39
  let main_v82 : FVec F S128x1 .f32 := broadcastInDim S128x1 ![0] bcast_S128_S128x1_0 main_v81
  let main_cst_40 : FVec F S_ .f32 := constant S_ .f32 0x3F800000#32
  let main_v83 : FVec F S128x1 .f32 := broadcastInDim S128x1 ![] bcast_S_S128x1 main_cst_40
  let main_v84 : FVec F S128x1 .f32 := subf main_v82 main_v83
  let main_v85 : FVec F S128x1 .f32 := Host.divf main_v84 main_v79
  let main_v86 : FVec F S128x32768 .f32 := broadcastInDim S128x32768 ![0, 1] bcast_S128x1_S128x32768_0_1 main_v85
  let main_v87 : IVec S128x32768 1 := cmpf .oge main_v0 main_v86
  let main_v88 : IVec S128x32768 1 := ori main_v73 main_v87
  let main_v89 : IVec S128x32768 1 := broadcastInDim S128x32768 ![0, 1] bcast_S128x1_S128x32768_0_1 main_v71
  let main_v90 : IVec S128x32768 1 := andi main_v89 main_v88
  main_v90

def fn_part4 {F : FTy → Type} [FloatOps F] (main_v0 : FVec F S128x32768 .f32) (main_v2 : FVec F S128x1 .f32) (main_v58 : FVec F S128x1 .f32) (main_v61 : FVec F S128x1 .f32) (main_v62 : FVec F S128x1 .f32) : IVec S128x32768 1 :=
  let main_v63 : FVec F S128x1 .f32 := subf main_v61 main_v62
  let main_v64 : FVec F S128x1 .f32 := Host.divf main_v63 main_v58
  let main_cst_32 : FVec F S_ .f32 := constant S_ .f32 0x3F800000#32
  let main_v65 : FVec F S128x1 .f32 := broadcastInDim S128x1 ![] bcast_S_S128x1 main_cst_32
  let main_v66 : FVec F S128x1 .f32 := subf main_v2 main_v65
  let main_cst_33 : FVec F S_ .f32 := constant S_ .f32 0xFF7FC99E#32
  let main_v67 : FVec F S128x1 .f32 := broadcastInDim S128x1 ![] bcast_S_S128x1 main_cst_33
  let main_v68 : IVec S128x1 1 := cmpf .oge main_v66 main_v67
  let main_cst_34 : FVec F S_ .f32 := constant S_ .f32 0x7F800000#32
  let main_v69 : FVec F S128x1 .f32 := broadcastInDim S128x1 ![] bcast_S_S128x1 main_cst_34
  let main_v70 : IVec S128x1 1 := cmpf .olt main_v2 main_v69
  let main_v71 : IVec S128x1 1 := andi main_v68 main_v70
  let main_v72 : FVec F S128x32768 .f32 := broadcastInDim S128x32768 ![0, 1] bcast_S128x1_S128x32768_0_1 main_v64
  let main_v73 : IVec S128x32768 1 := cmpf .ole main_v0 main_v72
  let main_v74 : FVec F S128x32768 .f32 := broadcastInDim S128x32768 ![0, 1] bcast_S128x1_S128x32768_0_1 main_v64
  let main_v75 : IVec S128x32768 1 := cmpf .ogt main_v0 main_v74
  let main_cst_35 : FVec F S_ .f32 := constant S_ .f32 0x3F800000#32
  let main_cst_36 : FVec F S_ .f32 := constant S_ .f32 0x00000000#32
  let main_v76 : FVec F S128x32768 .f32 := fn_where_0 (F := F) main_v75 main_cst_35 main_cst_36
  let main_v77 : FVec F S128x32768 .f32 := id main_v76
  let main_cst_37 : FVec F S_ .f32 := constant S_ .f32 0x00000000#32
  let main_v78 : FVec F S128 .f32 := (fun x v => Host.reduceAdd x v reducesTo_S128x32768_S128_d1 h_S_) main_v77 main_cst_37
  let main_v79 : FVec F S128x1 .f32 := broadcastInDim S128x1 ![0] bcast_S128_S128x1_0 main_v78
  let main_cst_38 : FVec F S_ .f32 := constant S_ .f32 0x00000000#32
  fn_part5 (F := F) main_v0 main_v71 main_v73 main_v75 main_v79 main_cst_38

def fn_part3 {F : FTy → Type} [FloatOps F] (main_v0 : FVec F S128x32768 .f32) (main_v2 : FVec F S128x1 .f32) (main_v42 : IVec S128x32768 1) (main_v46 : FVec F S128x1 .f32) (main_cst_23 : FVec F S_ .f32) : IVec S128x32768 1 :=
  let main_v47 : FVec F S128x32768 .f32 := fn_where_1 (F := F) main_v42 main_v0 main_cst_23
  let main_cst_24 : FVec F S_ .f32 := constant S_ .f32 0x00000000#32
  let main_v48 : FVec F S128 .f32 := (fun x v => Host.reduceAdd x v reducesTo_S128x32768_S128_d1 h_S_) main_v47 main_cst_24
  let main_v49 : FVec F S128x1 .f32 := broadcastInDim S128x1 ![0] bcast_S128_S128x1_0 main_v48
  let main_cst_25 : FVec F S_ .f32 := constant S_ .f32 0x3F800000#32
  let main_v50 : FVec F S128x1 .f32 := broadcastInDim S128x1 ![] bcast_S_S128x1 main_cst_25
  let main_v51 : FVec F S128x1 .f32 := subf main_v49 main_v50
  let main_v52 : FVec F S128x1 .f32 := Host.divf main_v51 main_v46
  let main_v53 : FVec F S128x32768 .f32 := broadcastInDim S128x32768 ![0, 1] bcast_S128x1_S128x32768_0_1 main_v52
  let main_v54 : IVec S128x32768 1 := cmpf .ogt main_v0 main_v53
  let main_cst_26 : FVec F S_ .f32 := constant S_ .f32 0x3F800000#32
  let main_cst_27 : FVec F S_ .f32 := constant S_ .f32 0x00000000#32
  let main_v55 : FVec F S128x32768 .f32 := fn_where_0 (F := F) main_v54 main_cst_26 main_cst_27
  let main_v56 : FVec F S128x32768 .f32 := id main_v55
  let main_cst_28 : FVec F S_ .f32 := constant S_ .f32 0x00000000#32
  let main_v57 : FVec F S128 .f32 := (fun x v => Host.reduceAdd x v reducesTo_S128x32768_S128_d1 h_S_) main_v56 main_cst_28
  let main_v58 : FVec F S128x1 .f32 := broadcastInDim S128x1 ![0] bcast_S128_S128x1_0 main_v57
  let main_cst_29 : FVec F S_ .f32 := constant S_ .f32 0x00000000#32
  let main_v59 : FVec F S128x32768 .f32 := fn_where_1 (F := F) main_v54 main_v0 main_cst_29
  let main_cst_30 : FVec F S_ .f32 := constant S_ .f32 0x00000000#32
  let main_v60 : FVec F S128 .f32 := (fun x v => Host.reduceAdd x v reducesTo_S128x32768_S128_d1 h_S_) main_v59 main_cst_30
  let main_v61 : FVec F S128x1 .f32 := broadcastInDim S128x1 ![0] bcast_S128_S128x1_0 main_v60
  let main_cst_31 : FVec F S_ .f32 := constant S_ .f32 0x3F800000#32
  let main_v62 : FVec F S128x1 .f32 := broadcastInDim S128x1 ![] bcast_S_S128x1 main_cst_31
  fn_part4 (F := F) main_v0 main_v2 main_v58 main_v61 main_v62

def fn_part2 {F : FTy → Type} [FloatOps F] (main_v0 : FVec F S128x32768 .f32) (main_v2 : FVec F S128x1 .f32) (main_v30 : IVec S128x32768 1) (main_cst_14 : FVec F S_ .f32) (main_cst_15 : FVec F S_ .f32) : IVec S128x32768 1 :=
  let main_v31 : FVec F S128x32768 .f32 := fn_where_0 (F := F) main_v30 main_cst_14 main_cst_15
  let main_v32 : FVec F S128x32768 .f32 := id main_v31
  let main_cst_16 : FVec F S_ .f32 := constant S_ .f32 0x00000000#32
  let main_v33 : FVec F S128 .f32 := (fun x v => Host.reduceAdd x v reducesTo_S128x32768_S128_d1 h_S_) main_v32 main_cst_16
  let main_v34 : FVec F S128x1 .f32 := broadcastInDim S128x1 ![0] bcast_S128_S128x1_0 main_v33
  let main_cst_17 : FVec F S_ .f32 := constant S_ .f32 0x00000000#32
  let main_v35 : FVec F S128x32768 .f32 := fn_where_1 (F := F) main_v30 main_v0 main_cst_17
  let main_cst_18 : FVec F S_ .f32 := constant S_ .f32 0x00000000#32
  let main_v36 : FVec F S128 .f32 := (fun x v => Host.reduceAdd x v reducesTo_S128x32768_S128_d1 h_S_) main_v35 main_cst_18
  let main_v37 : FVec F S128x1 .f32 := broadcastInDim S128x1 ![0] bcast_S128_S128x1_0 main_v36
  let main_cst_19 : FVec F S_ .f32 := constant S_ .f32 0x3F800000#32
  let main_v38 : FVec F S128x1 .f32 := broadcastInDim S128x1 ![] bcast_S_S128x1 main_cst_19
  let main_v39 : FVec F S128x1 .f32 := subf main_v37 main_v38
  let main_v40 : FVec F S128x1 .f32 := Host.divf main_v39 main_v34
  let main_v41 : FVec F S128x32768 .f32 := broadcastInDim S128x32768 ![0, 1] bcast_S128x1_S128x32768_0_1 main_v40
  let main_v42 : IVec S128x32768 1 := cmpf .ogt main_v0 main_v41
  let main_cst_20 : FVec F S_ .f32 := constant S_ .f32 0x3F800000#32
  let main_cst_21 : FVec F S_ .f32 := constant S_ .f32 0x00000000#32
  let main_v43 : FVec F S128x32768 .f32 := fn_where_0 (F := F) main_v42 main_cst_20 main_cst_21
  let main_v44 : FVec F S128x32768 .f32 := id main_v43
  let main_cst_22 : FVec F S_ .f32 := constant S_ .f32 0x00000000#32
  let main_v45 : FVec F S128 .f32 := (fun x v => Host.reduceAdd x v reducesTo_S128x32768_S128_d1 h_S_) main_v44 main_cst_22
  let main_v46 : FVec F S128x1 .f32 := broadcastInDim S128x1 ![0] bcast_S128_S128x1_0 main_v45
  let main_cst_23 : FVec F S_ .f32 := constant S_ .f32 0x00000000#32
  fn_part3 (F := F) main_v0 main_v2 main_v42 main_v46 main_cst_23

def fn_part1 {F : FTy → Type} [FloatOps F] (main_v0 : FVec F S128x32768 .f32) (main_v2 : FVec F S128x1 .f32) (main_v10 : FVec F S128x1 .f32) (main_v13 : FVec F S128x1 .f32) (main_v14 : FVec F S128x1 .f32) : IVec S128x32768 1 :=
  let main_v15 : FVec F S128x1 .f32 := subf main_v13 main_v14
  let main_v16 : FVec F S128x1 .f32 := Host.divf main_v15 main_v10
  let main_v17 : FVec F S128x32768 .f32 := broadcastInDim S128x32768 ![0, 1] bcast_S128x1_S128x32768_0_1 main_v16
  let main_v18 : IVec S128x32768 1 := cmpf .ogt main_v0 main_v17
  let main_cst_8 : FVec F S_ .f32 := constant S_ .f32 0x3F800000#32
  let main_cst_9 : FVec F S_ .f32 := constant S_ .f32 0x00000000#32
  let main_v19 : FVec F S128x32768 .f32 := fn_where_0 (F := F) main_v18 main_cst_8 main_cst_9
  let main_v20 : FVec F S128x32768 .f32 := id main_v19
  let main_cst_10 : FVec F S_ .f32 := constant S_ .f32 0x00000000#32
  let main_v21 : FVec F S128 .f32 := (fun x v => Host.reduceAdd x v reducesTo_S128x32768_S128_d1 h_S_) main_v20 main_cst_10
  let main_v22 : FVec F S128x1 .f32 := broadcastInDim S128x1 ![0] bcast_S128_S128x1_0 main_v21
  let main_cst_11 : FVec F S_ .f32 := constant S_ .f32 0x00000000#32
  let main_v23 : FVec F S128x32768 .f32 := fn_where_1 (F := F) main_v18 main_v0 main_cst_11
  let main_cst_12 : FVec F S_ .f32 := constant S_ .f32 0x00000000#32
  let main_v24 : FVec F S128 .f32 := (fun x v => Host.reduceAdd x v reducesTo_S128x32768_S128_d1 h_S_) main_v23 main_cst_12
  let main_v25 : FVec F S128x1 .f32 := broadcastInDim S128x1 ![0] bcast_S128_S128x1_0 main_v24
  let main_cst_13 : FVec F S_ .f32 := constant S_ .f32 0x3F800000#32
  let main_v26 : FVec F S128x1 .f32 := broadcastInDim S128x1 ![] bcast_S_S128x1 main_cst_13
  let main_v27 : FVec F S128x1 .f32 := subf main_v25 main_v26
  let main_v28 : FVec F S128x1 .f32 := Host.divf main_v27 main_v22
  let main_v29 : FVec F S128x32768 .f32 := broadcastInDim S128x32768 ![0, 1] bcast_S128x1_S128x32768_0_1 main_v28
  let main_v30 : IVec S128x32768 1 := cmpf .ogt main_v0 main_v29
  let main_cst_14 : FVec F S_ .f32 := constant S_ .f32 0x3F800000#32
  let main_cst_15 : FVec F S_ .f32 := constant S_ .f32 0x00000000#32
  fn_part2 (F := F) main_v0 main_v2 main_v30 main_cst_14 main_cst_15

def fn {F : FTy → Type} [FloatOps F] (main_arg0 : FVec F S128x32768 .f32) (main_arg1 : IVec S128x32768 1) : IVec S128x32768 1 :=
  let main_cst : FVec F S_ .f32 := constant S_ .f32 0xFF800000#32
  let main_v0 : FVec F S128x32768 .f32 := fn_where (F := F) main_arg1 main_arg0 main_cst
  let main_cst_0 : FVec F S_ .f32 := constant S_ .f32 0xFF800000#32
  let main_v1 : FVec F S128 .f32 := (fun x v => Host.reduce FloatOps.maximumf x v reducesTo_S128x32768_S128_d1 h_S_) main_v0 main_cst_0
  let main_v2 : FVec F S128x1 .f32 := broadcastInDim S128x1 ![0] bcast_S128_S128x1_0 main_v1
  let main_cst_1 : FVec F S_ .f32 := constant S_ .f32 0x3F800000#32
  let main_v3 : FVec F S128x1 .f32 := broadcastInDim S128x1 ![] bcast_S_S128x1 main_cst_1
  let main_v4 : FVec F S128x1 .f32 := subf main_v2 main_v3
  let main_v5 : FVec F S128x32768 .f32 := broadcastInDim S128x32768 ![0, 1] bcast_S128x1_S128x32768_0_1 main_v4
  let main_v6 : IVec S128x32768 1 := cmpf .ogt main_v0 main_v5
  let main_cst_2 : FVec F S_ .f32 := constant S_ .f32 0x3F800000#32
  let main_cst_3 : FVec F S_ .f32 := constant S_ .f32 0x00000000#32
  let main_v7 : FVec F S128x32768 .f32 := fn_where_0 (F := F) main_v6 main_cst_2 main_cst_3
  let main_v8 : FVec F S128x32768 .f32 := id main_v7
  let main_cst_4 : FVec F S_ .f32 := constant S_ .f32 0x00000000#32
  let main_v9 : FVec F S128 .f32 := (fun x v => Host.reduceAdd x v reducesTo_S128x32768_S128_d1 h_S_) main_v8 main_cst_4
  let main_v10 : FVec F S128x1 .f32 := broadcastInDim S128x1 ![0] bcast_S128_S128x1_0 main_v9
  let main_cst_5 : FVec F S_ .f32 := constant S_ .f32 0x00000000#32
  let main_v11 : FVec F S128x32768 .f32 := fn_where_1 (F := F) main_v6 main_v0 main_cst_5
  let main_cst_6 : FVec F S_ .f32 := constant S_ .f32 0x00000000#32
  let main_v12 : FVec F S128 .f32 := (fun x v => Host.reduceAdd x v reducesTo_S128x32768_S128_d1 h_S_) main_v11 main_cst_6
  let main_v13 : FVec F S128x1 .f32 := broadcastInDim S128x1 ![0] bcast_S128_S128x1_0 main_v12
  let main_cst_7 : FVec F S_ .f32 := constant S_ .f32 0x3F800000#32
  let main_v14 : FVec F S128x1 .f32 := broadcastInDim S128x1 ![] bcast_S_S128x1 main_cst_7
  fn_part1 (F := F) main_v0 main_v2 main_v10 main_v13 main_v14
-- ==== Kernel.lean ====
abbrev S128x32768 : Shape := ⟨2, ![128, 32768]⟩
abbrev S16x32768 : Shape := ⟨2, ![16, 32768]⟩
abbrev S16 : Shape := ⟨1, ![16]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S128x32768, .i32⟩
  | .hbm, ⟨3, _⟩ => ⟨S128x32768, .f32⟩
  | .local _ .vmem, ⟨0, _⟩ => ⟨S16x32768, .f32⟩
  | .local _ .vmem, ⟨1, _⟩ => ⟨S16x32768, .f32⟩
  | .local _ .vmem, ⟨2, _⟩ => ⟨S16x32768, .i32⟩
  | .local _ .vmem, ⟨3, _⟩ => ⟨S16x32768, .i32⟩
  | .local _ .vmem, ⟨4, _⟩ => ⟨S16x32768, .f32⟩
  | .local _ .vmem, ⟨5, _⟩ => ⟨S16x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32768 : Shape := ⟨2, ![128, 32768]⟩
abbrev S_ : Shape := ⟨0, ![]⟩
abbrev S32768 : Shape := ⟨1, ![32768]⟩
abbrev S1x32768 : Shape := ⟨2, ![1, 32768]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i1⟩
  | .hbm, ⟨2, _⟩ => ⟨S_, .f32⟩
  | .hbm, ⟨3, _⟩ => ⟨S_, .f32⟩
  | .hbm, ⟨4, _⟩ => ⟨S128x32768, .f32⟩
  | .hbm, ⟨5, _⟩ => ⟨S128x32768, .f32⟩
  | .hbm, ⟨6, _⟩ => ⟨S128x32768, .f32⟩
  | .hbm, ⟨7, _⟩ => ⟨S128x32768, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S_, .f32⟩
  | .hbm, ⟨13, _⟩ => ⟨S_, .f32⟩
  | .hbm, ⟨14, _⟩ => ⟨S128x32768, .f32⟩
  | .hbm, ⟨15, _⟩ => ⟨S1x32768, .f32⟩
  | .hbm, ⟨16, _⟩ => ⟨S128x32768, .f32⟩
  | .hbm, ⟨17, _⟩ => ⟨S128x32768, .f32⟩
  | .hbm, ⟨18, _⟩ => ⟨S_, .f32⟩
  | .hbm, ⟨19, _⟩ => ⟨S128x32768, .f32⟩
  | .hbm, ⟨20, _⟩ => ⟨S128x32768, .f32⟩
  | .hbm, ⟨21, _⟩ => ⟨S128x32768, .i1⟩
  | .hbm, ⟨22, _⟩ => ⟨S128x32768, .i32⟩
  | .hbm, ⟨23, _⟩ => ⟨S_, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S128x1x1, .i32⟩
  | .hbm, ⟨37, _⟩ => ⟨S1, .i32⟩
  | .hbm, ⟨38, _⟩ => ⟨S_, .i32⟩
  | .hbm, ⟨39, _⟩ => ⟨S128x1x1, .i32⟩
  | .hbm, ⟨40, _⟩ => ⟨S128x1x1, .i1⟩
  | .hbm, ⟨41, _⟩ => ⟨S1x1x1, .i32⟩
  | .hbm, ⟨42, _⟩ => ⟨S128x1x1, .i32⟩
  | .hbm, ⟨43, _⟩ => ⟨S128x1x1, .i1⟩
  | .hbm, ⟨44, _⟩ => ⟨S128x1x1, .i1⟩
  | .hbm, ⟨45, _⟩ => ⟨S_, .i1⟩
  | .hbm, ⟨46, _⟩ => ⟨S128x1, .i1⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S128x1, .i32⟩
  | .hbm, ⟨55, _⟩ => ⟨S128x1, .f32⟩
  | .hbm, ⟨56, _⟩ => ⟨S128x1, .f32⟩
  | .hbm, ⟨57, _⟩ => ⟨S128x32768, .f32⟩
  | .hbm, ⟨58, _⟩ => ⟨S128x32768, .f32⟩
  | .hbm, ⟨59, _⟩ => ⟨S_, .f32⟩
  | .hbm, ⟨60, _⟩ => ⟨S128x32768, .f32⟩
  | .hbm, ⟨61, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_call3_call0_cst : Ref sig .tc := ⟨.hbm, 12, rfl⟩
abbrev main_call3_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call4_c : Ref sig .tc := ⟨.hbm, 29, rfl⟩
abbrev main_call4_v0 : Ref sig .tc := ⟨.hbm, 30, rfl⟩
abbrev main_call4_v1 : Ref sig .tc := ⟨.hbm, 31, rfl⟩
abbrev main_call4_c_0 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_call4_v5 : Ref sig .tc := ⟨.hbm, 36, rfl⟩
abbrev main_call4_c_1 : Ref sig .tc := ⟨.hbm, 37, rfl⟩
abbrev main_call4_c_2 : Ref sig .tc := ⟨.hbm, 38, rfl⟩
abbrev main_call4_v6 : Ref sig .tc := ⟨.hbm, 39, rfl⟩
abbrev main_call4_v7 : Ref sig .tc := ⟨.hbm, 40, rfl⟩
abbrev main_call4_v8 : Ref sig .tc := ⟨.hbm, 41, rfl⟩
abbrev main_call4_v9 : Ref sig .tc := ⟨.hbm, 42, rfl⟩
abbrev main_call4_v10 : Ref sig .tc := ⟨.hbm, 43, rfl⟩
abbrev main_call4_v11 : Ref sig .tc := ⟨.hbm, 44, rfl⟩
abbrev main_call4_c_3 : Ref sig .tc := ⟨.hbm, 45, rfl⟩
abbrev main_call4_v12 : Ref sig .tc := ⟨.hbm, 46, rfl⟩
abbrev main_call4_v13 : Ref sig .tc := ⟨.hbm, 47, rfl⟩
abbrev main_call4_cst : Ref sig .tc := ⟨.hbm, 48, rfl⟩
abbrev main_call4_v14 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]
-- ==== Proof.KernelBlock.lean ====
module

public import proofs.«01_k».proof.Proof.Gen.KernelIdeal.Frame
public import Idealize.ShloMosaic.Lib.Pipeline.Value

@[expose] public section

set_option maxRecDepth 16384

/-! # What the kernel's body computes on one block

The body is five copies of one bracketed Newton step and a last clipped one. The step is written here once, on a block
of 16 rows: `z` is the masked block and each row has a lower end `lo`, an upper end `hi` and a threshold `t`. The theorem
`out_eq` says that the block the body stores is the five-fold step followed by the last one. -/

noncomputable section

namespace Cert.KernelIdeal.Block

open Cert.KernelIdeal Cert.KernelIdeal.Gen Idealize.ShloMosaic

variable {F : FTy → Type} [FloatOps F]

/-- A value per row of the block. -/
abbrev Col (F : FTy → Type) := FVec F S16x1 .f32

/-- The masked block: the score where the mask word is not zero, else the large negative constant. -/
def masked (x : Vec F S16x32768 .f32) (w : Vec F S16x32768 .i32) : FVec F S16x32768 .f32 :=
  select (cmpi .ne w (constantI S16x32768 32 0#32)) x (broadcast S16x32768 (Scalar.ofBits .f32 0xFF7FC99E#32))

/-- The largest entry of each row. -/
def rowTop (z : FVec F S16x32768 .f32) : Col F :=
  shapeCast S16x1 (multiReduction .maximumf [1] S16 z 0xFF800000#32 reduces_S16x32768_S16 (.inl rfl) rfl) shapeCasts_S16_S16x1

/-- The number one in every row. -/
def ones : Col F := broadcast S16x1 (Scalar.ofBits .f32 0x3F800000#32)

/-- Which entries lie above their row's threshold. -/
def over (z : FVec F S16x32768 .f32) (t : Col F) : IVec S16x32768 1 :=
  cmpf .ogt z (broadcastTo S16x32768 t broadcasts_S16x1_S16x32768)

/-- The sum of the marked entries of each row. -/
def sumOf (z : FVec F S16x32768 .f32) (p : IVec S16x32768 1) : Col F :=
  shapeCast S16x1 (multiReduction .add [1] S16 (select p z (broadcast S16x32768 (Scalar.ofBits .f32 0x00000000#32)))
    0x00000000#32 reduces_S16x32768_S16 (.inl rfl) rfl) shapeCasts_S16_S16x1

/-- The number of marked entries of each row, taken as at least one. -/
def countOf (p : IVec S16x32768 1) : Col F :=
  maximumf (shapeCast S16x1 (multiReduction .add [1] S16
    (select p (broadcast S16x32768 (Scalar.ofBits .f32 0x3F800000#32)) (broadcast S16x32768 (Scalar.ofBits .f32 0x00000000#32)))
    0x00000000#32 reduces_S16x32768_S16 (.inl rfl) rfl) shapeCasts_S16_S16x1) ones

/-- Whether the mass above the threshold is at least one. -/
def below (z : FVec F S16x32768 .f32) (t : Col F) : IVec S16x1 1 :=
  cmpf .oge (subf (sumOf z (over z t)) (mulf (countOf (over z t)) t)) ones

/-- The Newton step from the threshold. -/
def cand (z : FVec F S16x32768 .f32) (t : Col F) : Col F :=
  divf (subf (sumOf z (over z t)) ones) (countOf (over z t))

/-- The new lower end. -/
def stepLo (z : FVec F S16x32768 .f32) (lo t : Col F) : Col F := select (below z t) (maximumf lo t) lo

/-- The new upper end. -/
def stepHi (z : FVec F S16x32768 .f32) (hi t : Col F) : Col F := select (below z t) hi (minimumf hi t)

/-- The new threshold. -/
def stepT (z : FVec F S16x32768 .f32) (lo hi t : Col F) : Col F :=
  select (andi (cmpf .ogt (cand z t) (stepLo z lo t)) (cmpf .ole (cand z t) (stepHi z hi t))) (cand z t)
    (mulf (broadcast S16x1 (Scalar.ofBits .f32 0x3F000000#32)) (addf (stepLo z lo t) (stepHi z hi t)))

/-- The bracket and threshold of every row. -/
structure State (F : FTy → Type) where
  /-- the lower ends -/
  lo : Col F
  /-- the upper ends -/
  hi : Col F
  /-- the thresholds -/
  t : Col F

/-- Where the iteration starts: from one below the row's largest entry up to it. -/
def start (z : FVec F S16x32768 .f32) : State F :=
  ⟨subf (rowTop z) ones, rowTop z, subf (rowTop z) ones⟩

/-- One step. -/
def step (z : FVec F S16x32768 .f32) (s : State F) : State F :=
  ⟨stepLo z s.lo s.t, stepHi z s.hi s.t, stepT z s.lo s.hi s.t⟩

/-- The state after `n` steps. -/
def after (z : FVec F S16x32768 .f32) : ℕ → State F
  | 0 => start z
  | n + 1 => step z (after z n)

/-- The state before any step, spelt out. -/
theorem after_zero (z : FVec F S16x32768 .f32) :
    after z 0 = ⟨subf (rowTop z) ones, rowTop z, subf (rowTop z) ones⟩ := by
  simp only [after, start]

/-- The state after one more step, spelt out. -/
theorem after_succ (z : FVec F S16x32768 .f32) (n : ℕ) :
    after z (n + 1) = ⟨stepLo z (after z n).lo (after z n).t, stepHi z (after z n).hi (after z n).t,
      stepT z (after z n).lo (after z n).hi (after z n).t⟩ := by
  simp only [after, step]

/-- The state after one step, spelt out. -/
theorem after_one (z : FVec F S16x32768 .f32) : after z 1
    = ⟨stepLo z (subf (rowTop z) ones) (subf (rowTop z) ones), stepHi z (rowTop z) (subf (rowTop z) ones),
      stepT z (subf (rowTop z) ones) (rowTop z) (subf (rowTop z) ones)⟩ := by
  simp only [after, step, start]

/-- The last step: one more Newton step, clipped to the bracket. -/
def final (z : FVec F S16x32768 .f32) (s : State F) : Col F :=
  minimumf s.hi (maximumf s.lo (cand z s.t))

/-- The block the body stores. -/
def result (z : FVec F S16x32768 .f32) : FVec F S16x32768 .f32 :=
  maximumf (subf z (broadcastTo S16x32768 (final z (after z 5)) broadcasts_S16x1_S16x32768))
    (broadcast S16x32768 (Scalar.ofBits .f32 0x00000000#32))

/-! ## The printed values are these -/

section printed
variable (w : Vec F S16x32768 .i32) (x : Vec F S16x32768 .f32)

/-- The first step, as printed. -/
theorem first_step : k0_pay9 w x = (after (masked x w) 1).lo ∧ k0_pay10 w x = (after (masked x w) 1).hi
    ∧ k0_pay11 w x = (after (masked x w) 1).t ∧ k0_pay12 w x = over (masked x w) (after (masked x w) 1).t := by
  have h2 : k0_pay2 w x = masked x w := rfl
  have h3 : k0_pay3 w x = rowTop (masked x w) := by unfold k0_pay3 rowTop; rw [h2]
  have h4 : k0_pay4 w x = subf (rowTop (masked x w)) ones := by unfold k0_pay4 ones; rw [h3]
  have h5 : k0_pay5 w x = over (masked x w) (subf (rowTop (masked x w)) ones) := by unfold k0_pay5; rw [h2, h4]; rfl
  have h6 : k0_pay6 w x = sumOf (masked x w) (over (masked x w) (subf (rowTop (masked x w)) ones)) := by
    unfold k0_pay6; rw [h2, h5]; rfl
  have h7 : k0_pay7 w x = countOf (over (masked x w) (subf (rowTop (masked x w)) ones)) := by unfold k0_pay7; rw [h5]; rfl
  have h8 : k0_pay8 w x = below (masked x w) (subf (rowTop (masked x w)) ones) := by unfold k0_pay8; rw [h4, h6, h7]; rfl
  have h9 : k0_pay9 w x = stepLo (masked x w) (subf (rowTop (masked x w)) ones) (subf (rowTop (masked x w)) ones) := by
    unfold k0_pay9 stepLo; rw [h8, h4]
  have h10 : k0_pay10 w x = stepHi (masked x w) (rowTop (masked x w)) (subf (rowTop (masked x w)) ones) := by
    unfold k0_pay10 stepHi; rw [h8, h3, h4]
  have h11 : k0_pay11 w x = stepT (masked x w) (subf (rowTop (masked x w)) ones) (rowTop (masked x w))
      (subf (rowTop (masked x w)) ones) := by
    unfold k0_pay11 stepT cand; rw [h6, h7, h9, h10]; rfl
  rw [h9, h10, h11, after_one]
  refine ⟨rfl, rfl, rfl, ?_⟩
  unfold k0_pay12; rw [h2, h11]; rfl

variable (z : FVec F S16x32768 .f32) (s : State F)

/-- The second step, as printed, with the next step's sums. -/
theorem second_step :
    k0_pay16 z s.lo s.t (over z s.t) = (step z s).lo
    ∧ k0_pay17 z s.hi s.t (over z s.t) = (step z s).hi
    ∧ k0_pay18 z s.lo s.hi s.t (over z s.t) = (step z s).t
    ∧ k0_pay20 z s.lo s.hi s.t (over z s.t) = sumOf z (over z (step z s).t)
    ∧ k0_pay21 z s.lo s.hi s.t (over z s.t) = countOf (over z (step z s).t)
    ∧ k0_pay22 z s.lo s.hi s.t (over z s.t)
      = subf (sumOf z (over z (step z s).t)) (mulf (countOf (over z (step z s).t)) (step z s).t) :=
  ⟨rfl, rfl, rfl, rfl, rfl, rfl⟩

/-- The third step, as printed. -/
theorem third_step :
    k0_pay24 s.lo s.t (subf (sumOf z (over z s.t)) (mulf (countOf (over z s.t)) s.t)) (Scalar.ofBits .f32 0x3F800000#32)
      = (step z s).lo
    ∧ k0_pay25 s.hi s.t (subf (sumOf z (over z s.t)) (mulf (countOf (over z s.t)) s.t)) (Scalar.ofBits .f32 0x3F800000#32)
      = (step z s).hi
    ∧ k0_pay26 s.lo s.hi s.t (sumOf z (over z s.t)) (countOf (over z s.t))
        (subf (sumOf z (over z s.t)) (mulf (countOf (over z s.t)) s.t)) (Scalar.ofBits .f32 0x3F800000#32)
      = (step z s).t :=
  ⟨rfl, rfl, rfl⟩

variable (a b c d e f : Col F) (o : F .f32)

/-- The fourth step, as printed, over the third step's printed values. -/
theorem fourth_step (h1 : k0_pay24 a c f o = s.lo) (h2 : k0_pay25 b c f o = s.hi) (h3 : k0_pay26 a b c d e f o = s.t) :
    k0_pay31 z a b c d e f o = (step z s).lo
    ∧ k0_pay32 z a b c d e f o = (step z s).hi
    ∧ k0_pay33 z a b c d e f o = (step z s).t
    ∧ k0_pay34 z a b c d e f o = over z (step z s).t := by
  have h4 : k0_pay27 z a b c d e f o = over z s.t := by
    rw [← h3]; rfl
  have h5 : k0_pay28 z a b c d e f o = sumOf z (over z s.t) := by rw [← h4]; rfl
  have h6 : k0_pay29 z a b c d e f o = countOf (over z s.t) := by rw [← h4]; rfl
  have h7 : k0_pay30 z a b c d e f o = below z s.t := by
    unfold k0_pay30; rw [h5, h6, h3]; rfl
  have h8 : k0_pay31 z a b c d e f o = (step z s).lo := by
    unfold k0_pay31; rw [h7, h1, h3]; rfl
  have h9 : k0_pay32 z a b c d e f o = (step z s).hi := by
    unfold k0_pay32; rw [h7, h2, h3]; rfl
  have h10 : k0_pay33 z a b c d e f o = (step z s).t := by
    unfold k0_pay33; rw [h5, h6, h8, h9]; rfl
  refine ⟨h8, h9, h10, ?_⟩
  unfold k0_pay34; rw [h10]; rfl

/-- The fifth step, as printed, and the last step's quotient. -/
theorem fifth_step :
    k0_pay38 z s.lo s.t (over z s.t) = (step z s).lo
    ∧ k0_pay39 z s.hi s.t (over z s.t) = (step z s).hi
    ∧ k0_pay41 z s.lo s.hi s.t (over z s.t) = countOf (over z (step z s).t)
    ∧ k0_pay42 z s.lo s.hi s.t (over z s.t) = subf (sumOf z (over z (step z s).t)) ones :=
  ⟨rfl, rfl, rfl, rfl⟩

end printed

/-- The block offset is zero on both axes. -/
theorem zero_offset : (![0, 0] : Fin 2 → Nat) = fun _ => 0 := funext fun a => by fin_cases a <;> rfl

/-- The block the body stores is the five-fold step and the last one, of the masked block. -/
theorem out_eq (x : Vec F S16x32768 .f32) (w : Vec F S16x32768 .i32) : out0_2 x w = result (masked x w) := by
  unfold out0_2
  rw [View.canon_unit_zero zero_offset]
  obtain ⟨p1, p2, p3, p4⟩ := first_step w x
  have q0 : k0_pay43 x w = masked x w := by
    unfold k0_pay43; rw [View.ld_unit_zero zero_offset, View.ld_unit_zero zero_offset]; rfl
  have q1 : k0_pay44 x w = (after (masked x w) 1).lo := by
    unfold k0_pay44; rw [View.ld_unit_zero zero_offset, View.ld_unit_zero zero_offset]; exact p1
  have q2 : k0_pay45 x w = (after (masked x w) 1).hi := by
    unfold k0_pay45; rw [View.ld_unit_zero zero_offset, View.ld_unit_zero zero_offset]; exact p2
  have q3 : k0_pay46 x w = (after (masked x w) 1).t := by
    unfold k0_pay46; rw [View.ld_unit_zero zero_offset, View.ld_unit_zero zero_offset]; exact p3
  have q4 : k0_pay47 x w = over (masked x w) (after (masked x w) 1).t := by
    unfold k0_pay47; rw [View.ld_unit_zero zero_offset, View.ld_unit_zero zero_offset]; exact p4
  obtain ⟨r1, r2, r3, r4, r5, r6⟩ := second_step (masked x w) (after (masked x w) 1)
  have s1 : k0_pay48 x w = (after (masked x w) 2).lo := by unfold k0_pay48; rw [q0, q1, q3, q4]; exact r1
  have s2 : k0_pay49 x w = (after (masked x w) 2).hi := by unfold k0_pay49; rw [q0, q2, q3, q4]; exact r2
  have s3 : k0_pay50 x w = (after (masked x w) 2).t := by unfold k0_pay50; rw [q0, q1, q2, q3, q4]; exact r3
  have s4 : k0_pay51 x w = sumOf (masked x w) (over (masked x w) (after (masked x w) 2).t) := by
    unfold k0_pay51; rw [q0, q1, q2, q3, q4]; exact r4
  have s5 : k0_pay52 x w = countOf (over (masked x w) (after (masked x w) 2).t) := by
    unfold k0_pay52; rw [q0, q1, q2, q3, q4]; exact r5
  have s6 : k0_pay53 x w = subf (sumOf (masked x w) (over (masked x w) (after (masked x w) 2).t))
      (mulf (countOf (over (masked x w) (after (masked x w) 2).t)) (after (masked x w) 2).t) := by
    unfold k0_pay53; rw [q0, q1, q2, q3, q4]; exact r6
  obtain ⟨t1, t2, t3⟩ := third_step (masked x w) (after (masked x w) 2)
  obtain ⟨u1, u2, u3, u4⟩ := fourth_step (masked x w) (after (masked x w) 3) _ _ _ _ _ _ _ t1 t2 t3
  have v1 : k0_pay54 x w = (after (masked x w) 4).lo := by
    unfold k0_pay54; rw [q0, s1, s2, s3, s4, s5, s6]; exact u1
  have v2 : k0_pay55 x w = (after (masked x w) 4).hi := by
    unfold k0_pay55; rw [q0, s1, s2, s3, s4, s5, s6]; exact u2
  have v3 : k0_pay56 x w = (after (masked x w) 4).t := by
    unfold k0_pay56; rw [q0, s1, s2, s3, s4, s5, s6]; exact u3
  have v4 : k0_pay57 x w = over (masked x w) (after (masked x w) 4).t := by
    unfold k0_pay57; rw [q0, s1, s2, s3, s4, s5, s6]; exact u4
  obtain ⟨w1, w2, w3, w4⟩ := fifth_step (masked x w) (after (masked x w) 4)
  rw [q0, v1, v2, v3, v4, w1, w2, w3, w4]
  rfl

end Cert.KernelIdeal.Block

end
-- ==== Proof.RowMath.lean ====
module

public import Mathlib.Data.Real.Basic
public import Mathlib.Algebra.BigOperators.Field
public import Mathlib.Algebra.Order.BigOperators.Group.Finset
public import Mathlib.Tactic.Linarith
public import Mathlib.Tactic.FieldSimp
public import Mathlib.Tactic.Ring

@[expose] public section

/-! # The mathematics of one row, over the reals

`y` is a row of real scores. For a threshold `t` the scores above it are counted and summed; `excess y t` is the mass
that the row has above `t`, and the sparsemax threshold of the row is the `τ` with `excess y τ = 1`. One Newton step
from `t` is `newton y t`, and `iter y p n` is the threshold after `n` Newton steps from `p - 1`. -/

noncomputable section

namespace Cert.RowMath

variable {ι : Type} [Fintype ι] (y : ι → ℝ)

/-- The sum of the scores above `t`. -/
def above (t : ℝ) : ℝ := ∑ i, if t < y i then y i else 0

/-- The number of scores above `t`, as a real. -/
def count (t : ℝ) : ℝ := ∑ i, if t < y i then 1 else 0

/-- The mass of the row above `t`. -/
def excess (t : ℝ) : ℝ := ∑ i, max (y i - t) 0

/-- One Newton step from `t` for the equation `excess y t = 1`. -/
def newton (t : ℝ) : ℝ := (above y t - 1) / count y t

/-- The threshold after `n` Newton steps from `p - 1`. -/
def iter (p : ℝ) : ℕ → ℝ
  | 0 => p - 1
  | n + 1 => newton y (iter p n)

/-- `p` is the largest score of the row. -/
def IsTop (p : ℝ) : Prop := (∀ i, y i ≤ p) ∧ ∃ i, y i = p

variable {y}

/-- The mass above `u`, counted only over the scores above `t`, is the sum of those scores less `u` for each. -/
theorem sum_above_sub (t u : ℝ) : (∑ i, if t < y i then y i - u else 0) = above y t - count y t * u := by
  unfold above count
  rw [Finset.sum_mul, ← Finset.sum_sub_distrib]
  refine Finset.sum_congr rfl fun i _ => ?_
  split <;> ring

/-- The mass above `t` is the sum of the scores above `t` less `t` for each. -/
theorem excess_eq (t : ℝ) : excess y t = above y t - count y t * t := by
  rw [← sum_above_sub]
  refine Finset.sum_congr rfl fun i _ => ?_
  split
  · exact max_eq_left (by linarith)
  · exact max_eq_right (by linarith)

/-- Counted over the scores above any `t`, the mass above `u` is at most all of it. -/
theorem above_sub_le_excess (t u : ℝ) : above y t - count y t * u ≤ excess y u := by
  rw [← sum_above_sub]
  refine Finset.sum_le_sum fun i _ => ?_
  split
  · exact le_max_left _ _
  · exact le_max_right _ _

/-- The count is at least one below the top. -/
theorem one_le_count {p t : ℝ} (hp : IsTop y p) (ht : t < p) : 1 ≤ count y t := by
  obtain ⟨i, hi⟩ := hp.2
  have h := Finset.single_le_sum (f := fun i => if t < y i then (1 : ℝ) else 0)
    (fun i _ => by split <;> norm_num) (Finset.mem_univ i)
  rw [show (if t < y i then (1 : ℝ) else 0) = 1 from if_pos (by rw [hi]; exact ht)] at h
  exact h

/-- A row has no mass above its top. -/
theorem excess_top {p t : ℝ} (hp : IsTop y p) (ht : p ≤ t) : excess y t = 0 :=
  Finset.sum_eq_zero fun i _ => max_eq_right (by linarith [hp.1 i])

/-- A threshold with mass above it lies below the top. -/
theorem lt_top_of_excess {p t : ℝ} (hp : IsTop y p) (ht : 1 ≤ excess y t) : t < p := by
  by_contra h
  rw [excess_top hp (not_lt.mp h)] at ht
  linarith

/-- The mass above one below the top is at least one. -/
theorem one_le_excess_start {p : ℝ} (hp : IsTop y p) : 1 ≤ excess y (p - 1) := by
  obtain ⟨i, hi⟩ := hp.2
  have h := Finset.single_le_sum (f := fun i => max (y i - (p - 1)) 0) (fun i _ => le_max_right _ _) (Finset.mem_univ i)
  have h' : y i - (p - 1) ≤ max (y i - (p - 1)) 0 := le_max_left _ _
  refine le_trans ?_ (le_trans h' h)
  rw [hi]; linarith

/-- Mass at least one above `t` is the same as the Newton step from `t` not going down. -/
theorem one_le_excess_iff {p t : ℝ} (hp : IsTop y p) (ht : t < p) : 1 ≤ excess y t ↔ t ≤ newton y t := by
  have hc := one_le_count hp ht
  rw [newton, le_div_iff₀ (by linarith), excess_eq]
  constructor <;> intro h <;> linarith

/-- A Newton step keeps the mass at least one. -/
theorem one_le_excess_newton {p t : ℝ} (hp : IsTop y p) (ht : t < p) : 1 ≤ excess y (newton y t) := by
  have hc := one_le_count hp ht
  refine le_trans (le_of_eq ?_) (above_sub_le_excess t _)
  rw [newton]
  field_simp
  ring

/-- Every Newton iterate has mass at least one above it. -/
theorem one_le_excess_iter {p : ℝ} (hp : IsTop y p) (n : ℕ) : 1 ≤ excess y (iter y p n) := by
  cases n with
  | zero => exact one_le_excess_start hp
  | succ n => exact one_le_excess_newton hp (lt_top_of_excess hp (one_le_excess_iter hp n))

/-- Every Newton iterate lies below the top. -/
theorem iter_lt {p : ℝ} (hp : IsTop y p) (n : ℕ) : iter y p n < p := lt_top_of_excess hp (one_le_excess_iter hp n)

/-- The Newton iterates do not go down. -/
theorem iter_le_succ {p : ℝ} (hp : IsTop y p) (n : ℕ) : iter y p n ≤ iter y p (n + 1) :=
  (one_le_excess_iff hp (iter_lt hp n)).mp (one_le_excess_iter hp n)

/-- Every Newton iterate is at least where the iteration starts. -/
theorem start_le_iter {p : ℝ} (hp : IsTop y p) (n : ℕ) : p - 1 ≤ iter y p n := by
  induction n with
  | zero => exact le_refl _
  | succ n ih => exact ih.trans (iter_le_succ hp n)

/-- If step `n + 1` drops no score that was above step `n`, the iterate is the exact threshold. -/
theorem excess_of_settled {p : ℝ} (hp : IsTop y p) (n : ℕ)
    (h : ∀ i, y i ≤ iter y p n ∨ iter y p (n + 1) ≤ y i) : excess y (iter y p (n + 1)) = 1 := by
  have hc := one_le_count hp (iter_lt hp n)
  have hle := iter_le_succ hp n
  have e : excess y (iter y p (n + 1))
      = above y (iter y p n) - count y (iter y p n) * iter y p (n + 1) := by
    rw [← sum_above_sub]
    refine Finset.sum_congr rfl fun i _ => ?_
    split
    · next hi =>
      exact max_eq_left (by rcases h i with h | h <;> linarith)
    · next hi => exact max_eq_right (by linarith)
  rw [e, iter, newton]
  field_simp
  ring

section root
variable {p τ : ℝ} (hp : IsTop y p) (hτ : excess y τ = 1)
include hp hτ

/-- Below the exact threshold the mass is at least one. -/
theorem one_le_excess_of_le {t : ℝ} (ht : t ≤ τ) : 1 ≤ excess y t := by
  rw [← hτ]
  exact Finset.sum_le_sum fun i _ => max_le_max (by linarith) (le_refl _)

/-- Above the exact threshold the mass is less than one. -/
theorem excess_lt_one {t : ℝ} (ht : τ < t) : excess y t < 1 := by
  obtain ⟨i, hi⟩ := hp.2
  have hτp := lt_top_of_excess hp hτ.ge
  rw [← hτ]
  refine Finset.sum_lt_sum (fun i _ => max_le_max (by linarith) (le_refl _)) ⟨i, Finset.mem_univ i, ?_⟩
  rw [hi]
  exact lt_of_lt_of_le (max_lt (by linarith) (by linarith)) (le_max_left _ _)

/-- Every Newton step from below the top lands at or below the exact threshold. -/
theorem newton_le {t : ℝ} (ht : t < p) : newton y t ≤ τ := by
  have hc := one_le_count hp ht
  have h := above_sub_le_excess (y := y) t τ
  rw [hτ] at h
  rw [newton, div_le_iff₀ (by linarith)]
  linarith

/-- The exact threshold is a fixed point of the Newton step. -/
theorem newton_root : newton y τ = τ := by
  have hc := one_le_count hp (lt_top_of_excess hp hτ.ge)
  have h := hτ
  rw [excess_eq] at h
  rw [newton, div_eq_iff (by linarith)]
  linarith

/-- Every Newton iterate is at most the exact threshold. -/
theorem iter_le (n : ℕ) : iter y p n ≤ τ := by
  by_contra h
  have := excess_lt_one hp hτ (not_le.mp h)
  linarith [one_le_excess_iter hp n]

end root

/-! ## The bracketed step -/

/-- Whether the mass above `t` is at least one, in the form the kernel tests. -/
def isBelow (y : ι → ℝ) (t : ℝ) : Prop := 1 ≤ above y t - count y t * t

open Classical in
/-- The lower end of the bracket after one step. -/
def nextLo (y : ι → ℝ) (lo t : ℝ) : ℝ := if isBelow y t then max lo t else lo

open Classical in
/-- The upper end of the bracket after one step. -/
def nextHi (y : ι → ℝ) (hi t : ℝ) : ℝ := if isBelow y t then hi else min hi t

/-- The next threshold: the Newton step if it lies inside the new bracket, else the bracket's middle. -/
def nextT (y : ι → ℝ) (lo hi t : ℝ) : ℝ :=
  if nextLo y lo t < newton y t ∧ newton y t ≤ nextHi y hi t then newton y t
  else 1 / 2 * (nextLo y lo t + nextHi y hi t)

/-- What holds of the bracket and threshold after `n` steps: either the threshold is the `n`-th Newton iterate, still
inside the first bracket, or that iterate was already exact and is the bracket's lower end. -/
def Tracks (y : ι → ℝ) (p τ : ℝ) (n : ℕ) (lo hi t : ℝ) : Prop :=
  (t = iter y p n ∧ lo ≤ t ∧ hi = p) ∨ (lo = τ ∧ iter y p n = τ ∧ τ < t ∧ t < p ∧ τ < hi ∧ hi ≤ p)

variable {p τ lo hi t : ℝ} {n : ℕ}

/-- The first bracket. -/
theorem tracks_start : Tracks y p τ 0 (p - 1) p (p - 1) := Or.inl ⟨rfl, le_refl _, rfl⟩

/-- A tracked threshold lies between the start and the top. -/
theorem Tracks.bounds (hp : IsTop y p) (hτ : excess y τ = 1) (h : Tracks y p τ n lo hi t) : p - 1 ≤ t ∧ t < p := by
  rcases h with ⟨rfl, _, _⟩ | ⟨_, hn, h1, h2, _, _⟩
  · exact ⟨start_le_iter hp n, iter_lt hp n⟩
  · exact ⟨by linarith [start_le_iter hp n], h2⟩

/-- One step of the bracketed iteration follows one Newton step. -/
theorem Tracks.step (hp : IsTop y p) (hτ : excess y τ = 1) (h : Tracks y p τ n lo hi t) :
    Tracks y p τ (n + 1) (nextLo y lo t) (nextHi y hi t) (nextT y lo hi t) := by
  have hτp := lt_top_of_excess hp hτ.ge
  rcases h with ⟨rfl, hlo, rfl⟩ | ⟨rfl, hn, h1, h2, h3, h4⟩
  · have hb : isBelow y (iter y hi n) := by
      unfold isBelow; rw [← excess_eq]; exact one_le_excess_iter hp n
    have e1 : nextLo y lo (iter y hi n) = iter y hi n := by rw [nextLo, if_pos hb, max_eq_right hlo]
    have e2 : nextHi y hi (iter y hi n) = hi := by rw [nextHi, if_pos hb]
    have hle := iter_le_succ hp n
    have hτn := iter_le hp hτ (n + 1)
    unfold nextT
    rw [e1, e2]
    split
    · exact Or.inl ⟨rfl, hle, rfl⟩
    · next hc =>
      have he : newton y (iter y hi n) = iter y hi n := by
        refine le_antisymm (not_lt.mp fun hlt => hc ⟨hlt, ?_⟩) hle
        exact hτn.trans hτp.le
      have hroot : iter y hi n = τ := by
        refine le_antisymm (iter_le hp hτ n) (not_lt.mp fun hlt => ?_)
        have hc1 := one_le_count hp (iter_lt hp n)
        have e : excess y (iter y hi n) = 1 := by
          rw [excess_eq]
          rw [newton, div_eq_iff (by linarith)] at he
          linarith
        have := excess_lt_one hp e hlt
        linarith
      refine Or.inr ⟨hroot, by rw [iter, he, hroot], ?_, ?_, hτp, le_refl _⟩ <;> rw [hroot] <;> linarith
  · have hb : ¬ isBelow y t := by
      unfold isBelow; rw [← excess_eq]; exact not_le.mpr (excess_lt_one hp hτ h1)
    have e1 : nextLo y lo t = lo := by rw [nextLo, if_neg hb]
    have e2 : nextHi y hi t = min hi t := by rw [nextHi, if_neg hb]
    have h5 : lo < min hi t := lt_min h3 h1
    have h6 : min hi t ≤ t := min_le_right _ _
    unfold nextT
    rw [e1, e2, if_neg (fun hc => absurd (newton_le hp hτ h2) (not_le.mpr hc.1))]
    exact Or.inr ⟨rfl, by rw [iter, hn, newton_root hp hτ], by linarith, by linarith, h5, by linarith⟩

/-- The last step, clipped to the bracket, is one more Newton step. -/
theorem Tracks.clip (hp : IsTop y p) (hτ : excess y τ = 1) (h : Tracks y p τ n lo hi t) :
    min hi (max lo (newton y t)) = iter y p (n + 1) := by
  have hτp := lt_top_of_excess hp hτ.ge
  rcases h with ⟨rfl, hlo, rfl⟩ | ⟨rfl, hn, h1, h2, h3, h4⟩
  · have hle := iter_le_succ hp n
    have hτn := iter_le hp hτ (n + 1)
    rw [iter] at hle hτn ⊢
    rw [max_eq_right (hlo.trans hle), min_eq_right (hτn.trans hτp.le)]
  · rw [max_eq_left (newton_le hp hτ h2), min_eq_right h3.le, iter, hn, newton_root hp hτ]

end Cert.RowMath

end
-- ==== Proof.RowIdeal.lean ====
module

public import proofs.«01_k».proof.Proof.RowMath
public import Idealize.ShloMosaic.PureOps.Ideal
public import Idealize.ShloMosaic.Lib.IdealHost

@[expose] public section

/-! # One row over the extended reals

The programs work on a row `z` of extended reals, in which a masked score is minus infinity (the reference) or a large
negative number (the kernel). Above one below the top both rows agree with one row `y` of real numbers, so sums, counts
and Newton steps taken there are those of `y`. -/

noncomputable section

namespace Cert.RowIdeal

open Idealize.ShloMosaic Cert.RowMath

variable {ι : Type} [Fintype ι]

/-- The sum of the entries above `t`. -/
def total (z : ι → EReal) (t : EReal) : EReal := ∑ i, if t < z i then z i else 0

/-- The number of entries above `t`. -/
def number (z : ι → EReal) (t : EReal) : EReal := ∑ i, if t < z i then 1 else 0

/-- The row `z` is the real row `y` as far as entries above `p - 1` go. -/
def Same (z : ι → EReal) (y : ι → ℝ) (p : ℝ) : Prop :=
  ∀ i, z i = (y i : EReal) ∨ (z i ≤ ((p - 1 : ℝ) : EReal) ∧ y i ≤ p - 1)

/-- A sum of reals, taken among the extended reals. -/
theorem coe_sum (f : ι → ℝ) : ((∑ i, f i : ℝ) : EReal) = ∑ i, (f i : EReal) :=
  map_sum ({ toFun := Real.toEReal, map_zero' := EReal.coe_zero, map_add' := EReal.coe_add } : ℝ →+ EReal) f _

/-- The greater of two reals, taken among the extended reals. -/
theorem coe_max (a b : ℝ) : ((max a b : ℝ) : EReal) = max (a : EReal) (b : EReal) := EReal.coe_strictMono.monotone.map_max

/-- The smaller of two reals, taken among the extended reals. -/
theorem coe_min (a b : ℝ) : ((min a b : ℝ) : EReal) = min (a : EReal) (b : EReal) := EReal.coe_strictMono.monotone.map_min

/-- The quotient of two reals, the second not zero, taken among the extended reals. -/
theorem div_coe (a b : ℝ) (hb : b ≠ 0) : Ideal.div (a : EReal) (b : EReal) = ((a / b : ℝ) : EReal) := by
  rw [Ideal.div_coe hb, ← EReal.coe_mul, mul_one_div]

/-- One, as an extended real, is the real one. -/
theorem one_coe : (1 : EReal) = ((1 : ℝ) : EReal) := rfl

section same
variable {z : ι → EReal} {y : ι → ℝ} {p t : ℝ} (h : Same z y p) (ht : p - 1 ≤ t)
include h ht

/-- The two rows have the same entries above `t`. -/
theorem Same.lt_iff (i : ι) : (t : EReal) < z i ↔ t < y i := by
  rcases h i with e | ⟨h1, h2⟩
  · rw [e, EReal.coe_lt_coe_iff]
  · constructor
    · intro hlt
      exact absurd (hlt.trans_le h1) (not_lt.mpr (EReal.coe_le_coe_iff.mpr ht))
    · intro hlt; linarith

/-- An entry above `t` is the same in both rows. -/
theorem Same.eq_of_lt (i : ι) (hi : t < y i) : z i = (y i : EReal) := by
  rcases h i with e | ⟨_, h2⟩
  · exact e
  · linarith

/-- Above `t` the two rows have the same sum. -/
theorem Same.total_eq : total z (t : EReal) = ((above y t : ℝ) : EReal) := by
  unfold total above
  rw [coe_sum]
  refine Finset.sum_congr rfl fun i _ => ?_
  by_cases hi : t < y i
  · rw [if_pos ((h.lt_iff ht i).mpr hi), if_pos hi, h.eq_of_lt ht i hi]
  · rw [if_neg (fun hc => hi ((h.lt_iff ht i).mp hc)), if_neg hi, EReal.coe_zero]

/-- Above `t` the two rows have the same number of entries. -/
theorem Same.number_eq : number z (t : EReal) = ((count y t : ℝ) : EReal) := by
  unfold number count
  rw [coe_sum]
  refine Finset.sum_congr rfl fun i _ => ?_
  by_cases hi : t < y i
  · rw [if_pos ((h.lt_iff ht i).mpr hi), if_pos hi, EReal.coe_one]
  · rw [if_neg (fun hc => hi ((h.lt_iff ht i).mp hc)), if_neg hi, EReal.coe_zero]

/-- The Newton step from `t` is that of the real row. -/
theorem Same.newton_eq (hp : IsTop y p) (htp : t < p) :
    Ideal.div (total z (t : EReal) - 1) (number z (t : EReal)) = ((newton y t : ℝ) : EReal) := by
  have hc := one_le_count hp htp
  rw [h.total_eq ht, h.number_eq ht, one_coe, ← EReal.coe_sub, div_coe _ _ (by linarith), newton]

/-- A count of at least one is not raised by taking it as at least one. -/
theorem Same.number_max (hp : IsTop y p) (htp : t < p) : max (number z (t : EReal)) 1 = ((count y t : ℝ) : EReal) := by
  rw [h.number_eq ht, one_coe, ← coe_max, max_eq_left (one_le_count hp htp)]

/-- What is left of an entry over a threshold is the same for the two rows, in fact nothing where they differ. -/
theorem Same.rest_eq (i : ι) : max (z i - (t : EReal)) 0 = ((max (y i - t) 0 : ℝ) : EReal) := by
  rw [coe_max, EReal.coe_zero, EReal.coe_sub]
  rcases h i with e | ⟨h1, h2⟩
  · rw [e]
  · rw [← EReal.coe_sub, max_eq_right, max_eq_right]
    · rw [← EReal.coe_zero, EReal.coe_le_coe_iff]; linarith
    · refine EReal.sub_nonpos.mpr (h1.trans (EReal.coe_le_coe_iff.mpr ht))

end same

/-! ## The constants of the two programs -/

/-- The word of minus infinity. -/
theorem ofBits_bot : Ideal.ofBits .f32 0xFF800000#32 = ⊥ := by
  simp [Ideal.ofBits, Ideal.ieee]

/-- The word of one half. -/
theorem ofBits_half : Ideal.ofBits .f32 0x3F000000#32 = ((1 / 2 : ℝ) : EReal) := by
  simp [Ideal.ofBits, Ideal.ieee, -EReal.coe_mul]; norm_num

/-- The word of plus infinity. -/
theorem ofBits_top : Ideal.ofBits .f32 0x7F800000#32 = ⊤ := by
  simp [Ideal.ofBits, Ideal.ieee]

/-- The large negative number that stands for a masked score. -/
def floor : EReal := Ideal.ofBits .f32 0xFF7FC99E#32

/-- It is a real number. -/
theorem floor_ne_bot : floor ≠ ⊥ := by
  unfold floor
  simp [Ideal.ofBits, Ideal.ieee, -EReal.coe_mul]

end Cert.RowIdeal

end
-- ==== Proof.RowTop.lean ====
module

public import proofs.«01_k».proof.Proof.RowIdeal

@[expose] public section

/-! # The two masked rows agree with one real row

From the scores `x` of a row and its mask `b` the reference forms a row with minus infinity at the masked places, the
kernel one with a large negative number there. If the top of the row is finite and at least one above that number, both
are, above one below the top, the same real row. -/

noncomputable section

namespace Cert.RowIdeal

open Idealize.ShloMosaic Cert.RowMath

variable {ι : Type} [Fintype ι]

/-- A row with `d` at its masked places. -/
def maskedRow (x : ι → EReal) (b : ι → BitVec 1) (d : EReal) (i : ι) : EReal := if b i = 1#1 then x i else d

/-- The largest entry of a row. -/
def top (z : ι → EReal) : EReal := Finset.univ.fold max ⊥ z

/-- The largest entry is at least every entry. -/
theorem le_top (z : ι → EReal) (i : ι) : z i ≤ top z := Finset.le_sup (f := z) (Finset.mem_univ i)

/-- A bound on every entry is a bound on the largest. -/
theorem top_le {z : ι → EReal} {d : EReal} (h : ∀ i, z i ≤ d) : top z ≤ d := Finset.sup_le fun i _ => h i

/-- The largest entry is one of the entries. -/
theorem exists_eq_top [Nonempty ι] (z : ι → EReal) : ∃ i, z i = top z := by
  obtain ⟨i, _, hi⟩ := Finset.exists_mem_eq_sup Finset.univ Finset.univ_nonempty z
  exact ⟨i, hi.symm⟩

/-- Under a finite top, at least one above the kernel's large negative number, one real row stands for both. -/
theorem exists_row [Nonempty ι] (x : ι → EReal) (b : ι → BitVec 1) (h1 : floor ≤ top (maskedRow x b ⊥) - 1)
    (h2 : top (maskedRow x b ⊥) < ⊤) :
    ∃ (y : ι → ℝ) (p : ℝ), top (maskedRow x b ⊥) = (p : EReal) ∧ top (maskedRow x b floor) = (p : EReal)
      ∧ IsTop y p ∧ Same (maskedRow x b ⊥) y p ∧ Same (maskedRow x b floor) y p := by
  have hbot : top (maskedRow x b ⊥) ≠ ⊥ := by
    intro e
    rw [e, EReal.bot_sub] at h1
    exact floor_ne_bot (le_bot_iff.mp h1)
  obtain ⟨p, hp⟩ : ∃ p : ℝ, top (maskedRow x b ⊥) = (p : EReal) := ⟨_, (EReal.coe_toReal h2.ne hbot).symm⟩
  rw [hp, one_coe, ← EReal.coe_sub] at h1
  have hle : ∀ i, maskedRow x b ⊥ i ≤ (p : EReal) := fun i => hp ▸ le_top _ i
  have hpp : ((p - 1 : ℝ) : EReal) ≤ (p : EReal) := EReal.coe_le_coe_iff.mpr (by linarith)
  have hy : ∀ i, (((max (maskedRow x b ⊥ i) ((p - 1 : ℝ) : EReal)).toReal : ℝ) : EReal)
      = max (maskedRow x b ⊥ i) ((p - 1 : ℝ) : EReal) := fun i =>
    EReal.coe_toReal ((max_le (hle i) hpp).trans_lt (EReal.coe_lt_top p)).ne
      ((EReal.bot_lt_coe (p - 1)).trans_le (le_max_right _ _)).ne'
  have hsame : Same (maskedRow x b ⊥) (fun i => (max (maskedRow x b ⊥ i) ((p - 1 : ℝ) : EReal)).toReal) p := by
    intro i
    rcases le_total (maskedRow x b ⊥ i) ((p - 1 : ℝ) : EReal) with hi | hi
    · right
      refine ⟨hi, ?_⟩
      show (max (maskedRow x b ⊥ i) ((p - 1 : ℝ) : EReal)).toReal ≤ p - 1
      rw [max_eq_right hi, EReal.toReal_coe]
    · left
      show _ = (((max (maskedRow x b ⊥ i) ((p - 1 : ℝ) : EReal)).toReal : ℝ) : EReal)
      rw [hy, max_eq_left hi]
  obtain ⟨k, hk⟩ := exists_eq_top (maskedRow x b ⊥)
  rw [hp] at hk
  have hbk : b k = 1#1 := by
    by_contra hc
    rw [maskedRow, if_neg hc] at hk
    exact EReal.bot_ne_coe p hk
  refine ⟨_, p, hp, ?_, ⟨fun i => ?_, k, ?_⟩, hsame, fun i => ?_⟩
  · refine le_antisymm (top_le fun i => ?_) ?_
    · unfold maskedRow
      split
      · next hb => have := hle i; rw [maskedRow, if_pos hb] at this; exact this
      · exact h1.trans hpp
    · rw [← hk]
      refine le_trans (le_of_eq ?_) (le_top _ k)
      rw [maskedRow, maskedRow, if_pos hbk, if_pos hbk]
  · rw [← EReal.coe_le_coe_iff, hy]
    exact max_le (hle i) hpp
  · rw [← EReal.coe_eq_coe_iff, hy, hk, max_eq_left hpp]
  · by_cases hb : b i = 1#1
    · have := hsame i
      rwa [maskedRow, if_pos hb] at this ⊢
    · right
      refine ⟨by rw [maskedRow, if_neg hb]; exact h1, ?_⟩
      rw [← EReal.coe_le_coe_iff, hy, maskedRow, if_neg hb, max_eq_right bot_le]

end Cert.RowIdeal

end
-- ==== Proof.KernelRow.lean ====
module

public import proofs.«01_k».proof.Proof.KernelBlock
public import proofs.«01_k».proof.Proof.RowTop
public import Idealize.ShloMosaic.Lib.Pointwise

@[expose] public section

set_option maxRecDepth 16384

/-! # A row of the kernel's block, at the ideal values

Every value of the body is read at one row: sums and counts along the row are those of `RowIdeal`, and where the row
agrees with a real row the bracket and the threshold after `n` steps are real numbers that follow the Newton iterates. -/

noncomputable section

namespace Cert.KernelIdeal.Block

open Cert.KernelIdeal Cert.KernelIdeal.Gen Idealize.ShloMosaic Cert.RowMath Cert.RowIdeal

/-- Row `r` of a block. -/
def row (z : FVec Ideal S16x32768 .f32) (r : Fin 16) (k : Fin 32768) : EReal := z (ix2 r k)

/-- A selection on a decided condition is the conditional. -/
theorem select_ofBool {α : Type} (P : Prop) [Decidable P] (a b : α) :
    Scalar.select (BitVec.ofBool (decide P)) a b = if P then a else b := by
  by_cases h : P <;> simp [Scalar.select, h]

/-- A conjunction of two decided conditions. -/
theorem andi_ofBool (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ] <;> rfl

variable (z : FVec Ideal S16x32768 .f32) (lo hi t : Col Ideal) (r : Fin 16)

/-- The marks above the threshold, at an entry. -/
theorem over_apply (k : Fin 32768) :
    over z t (ix2 r k) = BitVec.ofBool (decide (t (ix2 r (0 : Fin 1)) < z (ix2 r k))) := by
  unfold over
  pointwise

/-- The sum above the threshold, at a row. -/
theorem sumOf_apply : sumOf z (over z t) (ix2 r (0 : Fin 1)) = total (row z r) (t (ix2 r (0 : Fin 1))) := by
  unfold sumOf
  pointwise
  unfold total row
  refine Finset.sum_congr rfl fun k _ => ?_
  rw [over_apply, select_ofBool]

/-- The count above the threshold, at a row. -/
theorem countOf_apply :
    countOf (F := Ideal) (over z t) (ix2 r (0 : Fin 1)) = max (number (row z r) (t (ix2 r (0 : Fin 1)))) 1 := by
  unfold countOf ones
  pointwise
  unfold number row
  refine congrArg (fun s : EReal => max s 1) (Finset.sum_congr rfl fun k _ => ?_)
  rw [over_apply, select_ofBool]

/-- The largest entry, at a row. -/
theorem rowTop_apply : rowTop z (ix2 r (0 : Fin 1)) = top (row z r) := by
  unfold rowTop
  pointwise
  rw [ofBits_bot]
  rfl

/-- The test of the step, at a row. -/
theorem below_apply : below z t (ix2 r (0 : Fin 1)) = BitVec.ofBool (decide ((1 : EReal)
    ≤ total (row z r) (t (ix2 r (0 : Fin 1))) - max (number (row z r) (t (ix2 r (0 : Fin 1)))) 1 * t (ix2 r (0 : Fin 1)))) := by
  unfold below ones
  pointwise
  rw [sumOf_apply, countOf_apply]

/-- The Newton step, at a row. -/
theorem cand_apply : cand z t (ix2 r (0 : Fin 1))
    = Ideal.div (total (row z r) (t (ix2 r (0 : Fin 1))) - 1) (max (number (row z r) (t (ix2 r (0 : Fin 1)))) 1) := by
  unfold cand ones
  pointwise
  rw [sumOf_apply, countOf_apply]

/-- The new lower end, at a row. -/
theorem stepLo_apply : stepLo z lo t (ix2 r (0 : Fin 1)) = Scalar.select (below z t (ix2 r (0 : Fin 1)))
    (max (lo (ix2 r (0 : Fin 1))) (t (ix2 r (0 : Fin 1)))) (lo (ix2 r (0 : Fin 1))) := by
  unfold stepLo
  pointwise

/-- The new upper end, at a row. -/
theorem stepHi_apply : stepHi z hi t (ix2 r (0 : Fin 1)) = Scalar.select (below z t (ix2 r (0 : Fin 1)))
    (hi (ix2 r (0 : Fin 1))) (min (hi (ix2 r (0 : Fin 1))) (t (ix2 r (0 : Fin 1)))) := by
  unfold stepHi
  pointwise

/-- The new threshold, at a row. -/
theorem stepT_apply : stepT z lo hi t (ix2 r (0 : Fin 1))
    = if stepLo z lo t (ix2 r (0 : Fin 1)) < cand z t (ix2 r (0 : Fin 1))
          ∧ cand z t (ix2 r (0 : Fin 1)) ≤ stepHi z hi t (ix2 r (0 : Fin 1)) then cand z t (ix2 r (0 : Fin 1))
      else ((1 / 2 : ℝ) : EReal) * (stepLo z lo t (ix2 r (0 : Fin 1)) + stepHi z hi t (ix2 r (0 : Fin 1))) := by
  unfold stepT
  pointwise
  rw [andi_ofBool, select_ofBool, ofBits_half]

section tracked
variable {y : Fin 32768 → ℝ} {p τ : ℝ} (hp : IsTop y p) (hτ : excess y τ = 1) (hs : Same (row z r) y p)
include hp hs

section at_real
variable {a b c : ℝ} (hlo : lo (ix2 r (0 : Fin 1)) = (a : EReal)) (hhi : hi (ix2 r (0 : Fin 1)) = (b : EReal))
  (ht : t (ix2 r (0 : Fin 1)) = (c : EReal)) (hc1 : p - 1 ≤ c) (hc2 : c < p)
include ht hc1 hc2

/-- At a real threshold the Newton step is the real row's. -/
theorem cand_real : cand z t (ix2 r (0 : Fin 1)) = ((newton y c : ℝ) : EReal) := by
  rw [cand_apply, ht, hs.number_max hc1 hp hc2, ← hs.number_eq hc1, hs.newton_eq hc1 hp hc2]

open Classical in
/-- At a real threshold the test is the real row's. -/
theorem below_real : below z t (ix2 r (0 : Fin 1)) = BitVec.ofBool (decide (isBelow y c)) := by
  rw [below_apply, ht, hs.number_max hc1 hp hc2, hs.total_eq hc1, ← EReal.coe_mul, ← EReal.coe_sub, one_coe]
  congr 1
  exact decide_eq_decide.mpr EReal.coe_le_coe_iff

include hlo in
/-- At a real bracket the new lower end is the real row's. -/
theorem stepLo_real : stepLo z lo t (ix2 r (0 : Fin 1)) = ((nextLo y a c : ℝ) : EReal) := by
  rw [stepLo_apply, below_real z t r hp hs ht hc1 hc2, select_ofBool, hlo, ht, nextLo, ← coe_max]
  split <;> rfl

include hhi in
/-- At a real bracket the new upper end is the real row's. -/
theorem stepHi_real : stepHi z hi t (ix2 r (0 : Fin 1)) = ((nextHi y b c : ℝ) : EReal) := by
  rw [stepHi_apply, below_real z t r hp hs ht hc1 hc2, select_ofBool, hhi, ht, nextHi, ← coe_min]
  split <;> rfl

include hlo hhi in
/-- At a real bracket the new threshold is the real row's. -/
theorem stepT_real : stepT z lo hi t (ix2 r (0 : Fin 1)) = ((nextT y a b c : ℝ) : EReal) := by
  rw [stepT_apply, cand_real z t r hp hs ht hc1 hc2, stepLo_real z lo t r hp hs hlo ht hc1 hc2,
    stepHi_real z hi t r hp hs hhi ht hc1 hc2, ← EReal.coe_add, ← EReal.coe_mul, nextT]
  simp only [EReal.coe_lt_coe_iff, EReal.coe_le_coe_iff]
  split <;> rfl

end at_real

include hτ

/-- After `n` steps the bracket and the threshold of the row are real numbers that follow the Newton iterates. -/
theorem after_tracks (htop : top (row z r) = (p : EReal)) (n : ℕ) : ∃ a b c : ℝ,
    (after z n).lo (ix2 r (0 : Fin 1)) = (a : EReal) ∧ (after z n).hi (ix2 r (0 : Fin 1)) = (b : EReal)
      ∧ (after z n).t (ix2 r (0 : Fin 1)) = (c : EReal) ∧ Tracks y p τ n a b c := by
  induction n with
  | zero =>
    have e : subf (rowTop z) ones (ix2 r (0 : Fin 1)) = ((p - 1 : ℝ) : EReal) := by
      unfold ones
      pointwise
      rw [rowTop_apply, htop, one_coe, ← EReal.coe_sub]
    rw [after_zero]
    dsimp only
    exact ⟨p - 1, p, p - 1, e, (rowTop_apply z r).trans htop, e, tracks_start⟩
  | succ n ih =>
    obtain ⟨a, b, c, h1, h2, h3, h4⟩ := ih
    obtain ⟨hc1, hc2⟩ := h4.bounds hp hτ
    rw [after_succ]
    dsimp only
    exact ⟨_, _, _, stepLo_real z _ _ r hp hs h1 h3 hc1 hc2, stepHi_real z _ _ r hp hs h2 h3 hc1 hc2,
      stepT_real z _ _ _ r hp hs h1 h2 h3 hc1 hc2, h4.step hp hτ⟩

/-- The threshold the kernel ends with is the sixth Newton iterate. -/
theorem final_real (htop : top (row z r) = (p : EReal)) :
    final z (after z 5) (ix2 r (0 : Fin 1)) = ((iter y p 6 : ℝ) : EReal) := by
  obtain ⟨a, b, c, h1, h2, h3, h4⟩ := after_tracks z r hp hτ hs htop 5
  obtain ⟨hc1, hc2⟩ := h4.bounds hp hτ
  unfold final
  pointwise
  rw [cand_real z _ r hp hs h3 hc1 hc2, h1, h2, ← coe_max, ← coe_min, h4.clip hp hτ]

end tracked

/-- The stored block at an entry: what is left of the entry over the row's threshold. -/
theorem result_apply (k : Fin 32768) :
    result z (ix2 r k) = max (row z r k - final z (after z 5) (ix2 r (0 : Fin 1))) 0 := by
  unfold result
  pointwise
  rfl

end Cert.KernelIdeal.Block

end
-- ==== Proof.KernelArray.lean ====
module

public import proofs.«01_k».proof.Proof.KernelRow
public import proofs.«01_k».proof.Proof.Gen.KernelIdeal.Value

@[expose] public section

set_option maxRecDepth 16384

/-! # The array the kernel leaves

The eight blocks of sixteen rows tile the result. `final_array` names the result once the threshold of every row is
known: at each entry, what is left of the masked score over the threshold of its row. -/

noncomputable section

namespace Cert.KernelIdeal.Block

open Cert.KernelIdeal Cert.KernelIdeal.Gen Idealize.ShloMosaic Idealize.ShloMosaic.TcCoe Idealize.SL.Sem Cert.RowMath
  Cert.RowIdeal
open Idealize.ShloMosaic.Pipeline (Dat)

section words
variable {F : FTy → Type} [FloatOps F]
variable (m : (ℓ : Loc nD τ sig) → Buf (Elt F) ℓ)

/-- The mask words the kernel reads are the mask bits, widened. -/
theorem V_main_v0 (c : Dev nD) :
    V m c main_v0 = extui 32 (m ((c : Thread nD τ).loc main_arg1) : IVec S128x32768 1) natLt_1_32 := by
  show StableHlo.after hostOps0 _ (Proc.devRef .tc main_v0) = _
  simp only [hostOps0]
  after_results_simp

end words

/-- The block of point `t` starts at row `16 t` and column zero, for each of the three arrays. -/
theorem block_index : ∀ t : Fin grid0.N, (win0_0.index t 0 = t.val ∧ win0_0.index t 1 = 0)
    ∧ (win0_1.index t 0 = t.val ∧ win0_1.index t 1 = 0) ∧ (win0_2.index t 0 = t.val ∧ win0_2.index t 1 = 0) := by
  decide +kernel

/-- Row `r` of block `t` is row `16 t + r` of the array. -/
theorem row_lt (t : Fin cfg0.N) (r : Fin 16) : t.val * 16 + r.val < 128 := by
  have h : t.val < cfg0.N := t.isLt
  have hN : cfg0.N = 8 := N_0
  have := r.isLt
  omega

/-- The array row of row `r` of block `t`. -/
def rowOf (t : Fin cfg0.N) (r : Fin 16) : Fin 128 := ⟨t.val * 16 + r.val, row_lt t r⟩

variable (m : (ℓ : Loc nD τ sig) → Buf (Elt Ideal) ℓ)

/-- The scores of device `c`. -/
def scores (c : Dev nD) : FVec Ideal S128x32768 .f32 := m ((c : Thread nD τ).loc main_arg0)

/-- The mask of device `c`. -/
def mask (c : Dev nD) : IVec S128x32768 1 := m ((c : Thread nD τ).loc main_arg1)

/-- Row `R` of the scores. -/
def scoreRow (c : Dev nD) (R : Fin 128) (k : Fin 32768) : EReal := scores m c (ix2 R k)

/-- Row `R` of the mask. -/
def maskRow (c : Dev nD) (R : Fin 128) (k : Fin 32768) : BitVec 1 := mask m c (ix2 R k)

/-- The block of scores at point `t`, at an entry. -/
theorem scores_block (c : Dev nD) (t : Fin cfg0.N) (r : Fin 16) (k : Fin 32768) :
    (iblk m c 0 t : Vec Ideal S16x32768 .f32) (ix2 r k) = scoreRow m c (rowOf t r) k := by
  obtain ⟨⟨e0, e1⟩, _, _⟩ := block_index t
  unfold iblk
  rw [View.read_apply]
  show V m c main_arg0 _ = _
  rw [V_main_arg0]
  unfold scoreRow scores
  congr 1
  funext a
  apply Fin.ext
  match a with
  | ⟨0, _⟩ => show win0_0.index t 0 * 16 + 1 * r.val = t.val * 16 + r.val; rw [e0]; omega
  | ⟨1, _⟩ => show win0_0.index t 1 * 32768 + 1 * k.val = k.val; rw [e1]; omega

/-- The block of mask words at point `t`, at an entry. -/
theorem mask_block (c : Dev nD) (t : Fin cfg0.N) (r : Fin 16) (k : Fin 32768) :
    (iblk m c 1 t : Vec Ideal S16x32768 .i32) (ix2 r k) = BitVec.setWidth 32 (maskRow m c (rowOf t r) k) := by
  obtain ⟨_, ⟨e0, e1⟩, _⟩ := block_index t
  unfold iblk
  rw [View.read_apply]
  show V m c main_v0 _ = _
  rw [V_main_v0]
  show BitVec.setWidth 32 (mask m c _) = BitVec.setWidth 32 (mask m c _)
  congr 2
  funext a
  apply Fin.ext
  match a with
  | ⟨0, _⟩ => show win0_1.index t 0 * 16 + 1 * r.val = t.val * 16 + r.val; rw [e0]; omega
  | ⟨1, _⟩ => show win0_1.index t 1 * 32768 + 1 * k.val = k.val; rw [e1]; omega

/-- A widened bit is not zero exactly when it is one. -/
theorem select_widened {α : Type} (b : BitVec 1) (x d : α) :
    Scalar.select (IntOp.cmpi .ne (b.setWidth 32) 0#32) x d = if b = 1#1 then x else d := by
  have h : ∀ b : BitVec 1, IntOp.cmpi .ne (b.setWidth 32) 0#32 = b := by decide
  rw [h]; rfl

/-- The row of the masked block is the array's masked row. -/
theorem row_masked (c : Dev nD) (t : Fin cfg0.N) (r : Fin 16) :
    row (masked (iblk m c 0 t) (iblk m c 1 t)) r
      = maskedRow (scoreRow m c (rowOf t r)) (maskRow m c (rowOf t r)) floor := by
  funext k
  unfold row masked
  pointwise
  rw [scores_block, mask_block]
  exact select_widened _ _ _

/-- The result when row `R` has the threshold `T R`. -/
def over_threshold (c : Dev nD) (T : Fin 128 → EReal) : FVec Ideal S128x32768 .f32 := fun i =>
  max (maskedRow (scoreRow m c (i 0)) (maskRow m c (i 0)) floor (i 1) - T (i 0)) 0

/-- What point `t` writes back is its block of that result. -/
theorem flushed_eq (c : Dev nD) (T : Fin 128 → EReal)
    (hT : ∀ (z : FVec Ideal S16x32768 .f32) (r : Fin 16) (R : Fin 128),
      row z r = maskedRow (scoreRow m c R) (maskRow m c R) floor → final z (after z 5) (ix2 r (0 : Fin 1)) = T R)
    (t : Fin cfg0.N) :
    (dats m 0 c).flushed 2 t = (win0_2.blk t).view.read (Elt Ideal) (over_threshold m c T) := by
  obtain ⟨_, _, e0, e1⟩ := block_index t
  rw [Value.flushed2, out_eq]
  funext (i : S16x32768.Idx)
  obtain ⟨r, k, rfl⟩ : ∃ (r : Fin 16) (k : Fin 32768), i = ix2 r k := ⟨i 0, i 1, eq_ix2 i⟩
  rw [View.read_apply]
  show result (masked (iblk m c 0 t) (iblk m c 1 t)) (ix2 r k) = over_threshold m c T _
  rw [result_apply, hT _ r (rowOf t r) (row_masked m c t r), row_masked]
  have e : ∀ i : S128x32768.Idx, (i 0).val = (rowOf t r).val → (i 1).val = k.val → over_threshold m c T i
      = max (maskedRow (scoreRow m c (rowOf t r)) (maskRow m c (rowOf t r)) floor k - T (rowOf t r)) 0 := by
    intro i h0 h1
    have h0' : i 0 = rowOf t r := Fin.ext h0
    have h1' : i 1 = k := Fin.ext h1
    unfold over_threshold
    rw [h0', h1']
  refine (e _ ?_ ?_).symm
  · show win0_2.index t 0 * 16 + 1 * r.val = t.val * 16 + r.val; rw [e0]; omega
  · show win0_2.index t 1 * 32768 + 1 * k.val = k.val; rw [e1]; omega

/-- Which rows of the result are in the block of point `t`. -/
theorem mem_block (t : Fin cfg0.N) (i : S128x32768.Idx) :
    i ∈ ((cfg0.win 2).blk t).view.set ↔ t.val * 16 ≤ (i 0 : Nat) ∧ (i 0 : Nat) < t.val * 16 + 16 := by
  obtain ⟨_, _, e0, e1⟩ := block_index t
  show i ∈ ((View.whole main_v1).slice (win0_2.rect t)).set ↔ _
  rw [View.set_slice_whole, Rect.mem_set_unit]
  have h1 : (i 1 : Nat) < 32768 := (i 1).isLt
  refine ⟨fun h => ?_, fun h a => ?_⟩
  · have : win0_2.index t 0 * 16 ≤ (i 0 : Nat) ∧ (i 0 : Nat) < win0_2.index t 0 * 16 + 16 := h 0
    rw [e0] at this; exact this
  · match a with
    | ⟨0, _⟩ =>
      show win0_2.index t 0 * 16 ≤ (i 0 : Nat) ∧ (i 0 : Nat) < win0_2.index t 0 * 16 + 16
      rw [e0]; exact h
    | ⟨1, _⟩ =>
      show win0_2.index t 1 * 32768 ≤ (i 1 : Nat) ∧ (i 1 : Nat) < win0_2.index t 1 * 32768 + 32768
      rw [e1, Nat.zero_mul, Nat.zero_add]
      exact ⟨Nat.zero_le _, h1⟩

/-- The blocks tile the result. -/
theorem cover (i : S128x32768.Idx) :
    ∃ t : Fin cfg0.N, (cfg0.win 2).flush t = true ∧ i ∈ ((cfg0.win 2).blk t).view.set := by
  have h0 : (i 0 : Nat) < 128 := (i 0).isLt
  have hN : cfg0.N = 8 := N_0
  refine ⟨⟨(i 0 : Nat) / 16, by omega⟩, flush0_2 _, ?_⟩
  rw [mem_block]
  dsimp only
  omega

/-- The result array, once the threshold of every row is known. -/
theorem final_array (c : Dev nD) (T : Fin 128 → EReal)
    (hT : ∀ (z : FVec Ideal S16x32768 .f32) (r : Fin 16) (R : Fin 128),
      row z r = maskedRow (scoreRow m c R) (maskRow m c R) floor → final z (after z 5) (ix2 r (0 : Fin 1)) = T R) :
    (dats m 0 c).arrAt 2 cfg0.N = over_threshold m c T :=
  (dats m 0 c).arrAt_eq_of_cover 2 (over_threshold m c T) (fun t _ => flushed_eq m c T hT t) cover

end Cert.KernelIdeal.Block

end
-- ==== Proof.RefStages.lean ====
module

public import proofs.«01_k».proof.Proof.Gen.ReferenceIdeal.Run

@[expose] public section

set_option maxRecDepth 16384

/-! # The reference, stage by stage

The reference masks the scores, sorts every row in descending order, sums along it, counts the support, reads the sum at
the last entry of the support, and takes from the masked scores the threshold this gives. -/

noncomputable section

namespace Cert.ReferenceIdeal.Stages

open Cert.ReferenceIdeal Cert.ReferenceIdeal.Gen Idealize.ShloMosaic Idealize.ShloMosaic.TcCoe

variable {F : FTy → Type} [FloatOps F]

/-- The scores with minus infinity where they are masked. -/
def masked (x : FVec F S128x32768 .f32) (b : IVec S128x32768 1) : FVec F S128x32768 .f32 :=
  select b x (broadcastInDim S128x32768 ![] bcast_S_S128x32768 (id (constant S_ .f32 0xFF800000#32)))

/-- Every row in descending order. -/
def sorted (z : FVec F S128x32768 .f32) : FVec F S128x32768 .f32 :=
  Host.reverse [1] (Host.sort S128x32768 1 comparator_f32_d1 z)

/-- The sums along every row. -/
def sums (a : FVec F S128x32768 .f32) : FVec F S128x32768 .f32 :=
  Host.reduceWindowAdd ![1, 32768] ![1, 1] ![0, 32767] ![0, 0] a
    (broadcastInDim S_ ![] bcast_S_S_ (constant S_ .f32 0x00000000#32))
    reduceWindows_S128x32768_S128x32768_w1s1p0_0_w32768s1p32767_0 h_S_

/-- One plus the position of an entry in its row, as a float. -/
def places : FVec F S128x32768 .f32 :=
  broadcastInDim S128x32768 ![0, 1] bcast_S1x32768_S128x32768_0_1
    (broadcastInDim S1x32768 ![1] bcast_S32768_S1x32768_1
      (addf (broadcastInDim S32768 ![] bcast_S_S32768 (constant S_ .f32 0x3F800000#32))
        (sitofp .f32 (iotaInDim S32768 32 0))))

/-- Which entries are in the support. -/
def support (a : FVec F S128x32768 .f32) : IVec S128x32768 1 :=
  cmpf .ogt (addf (broadcastInDim S128x32768 ![] bcast_S_S128x32768 (constant S_ .f32 0x3F800000#32)) (mulf places a))
    (sums a)

/-- The size of the support of every row. -/
def size (a : FVec F S128x32768 .f32) : IVec S128 32 :=
  Host.reduce IntOp.addi (extui 32 (support a) natLt_1_32) (constantI S_ 32 0#32) reducesTo_S128x32768_S128_d1 h_S_

/-- The position to read, as a column: one less than the size. -/
def place (n : IVec S128 32) : IVec S128x1 32 :=
  broadcastInDim S128x1 ![0] bcast_S128_S128x1_0
    (subi n (broadcastInDim S128 ![] bcast_S_S128 (constantI S_ 32 1#32)))

/-- The position to read, a negative one counted from the end. -/
def wrapped (q : IVec S128x1 32) : IVec S128x1x1 32 :=
  shapeCast _
    (select (cmpi .slt q (broadcastInDim S128x1 ![] bcast_S_S128x1 (constantI S_ 32 0#32)))
      (addi q (broadcastInDim S128x1 ![] bcast_S_S128x1 (constantI S_ 32 32768#32))) q)
    shapeCasts_S128x1_S128x1x1

/-- Whether the position is one of the row. -/
def inRow (w : IVec S128x1x1 32) : IVec S128x1 1 :=
  Host.reduce IntOp.andi
    (andi (cmpi .sge w (broadcastInDim S128x1x1 ![] bcast_S_S128x1x1 (constantI S_ 32 0#32)))
      (cmpi .sle w (broadcastInDim S128x1x1 ![0, 1, 2] bcast_S1x1x1_S128x1x1_0_1_2
        (broadcastInDim S1x1x1 ![2] bcast_S1_S1x1x1_2 (constantI S1 32 32767#32)))))
    (constantI S_ 1 1#1) reducesTo_S128x1x1_S128x1_d2 h_S_

/-- The sum read at the position. -/
def picked (s : FVec F S128x32768 .f32) (w : IVec S128x1x1 32) : FVec F S128x1 .f32 :=
  select (inRow w) (Host.gather gather_S128x32768_S128x1x1_S128x1_n_1_0_0_1_2_11 s w)
    (broadcastInDim S128x1 ![] bcast_S_S128x1 (constant S_ .f32 0x7FC00000#32))

/-- The threshold of every row. -/
def threshold (s : FVec F S128x32768 .f32) (n : IVec S128 32) : FVec F S128x1 .f32 :=
  Host.divf
    (subf (picked s (wrapped (place n))) (broadcastInDim S128x1 ![] bcast_S_S128x1 (constant S_ .f32 0x3F800000#32)))
    (sitofp .f32 (broadcastInDim S128x1 ![0] bcast_S128_S128x1_0 n))

/-- What is left of the masked scores over the thresholds. -/
def result (z : FVec F S128x32768 .f32) (t : FVec F S128x1 .f32) : FVec F S128x32768 .f32 :=
  maximumf (subf z (broadcastInDim S128x32768 ![0, 1] bcast_S128x1_S128x32768_0_1 t))
    (broadcastInDim S128x32768 ![] bcast_S_S128x32768 (constant S_ .f32 0x00000000#32))

/-- The reference as those stages. -/
theorem out_eq (m : (ℓ : Loc nD τ sig) → Buf (Elt F) ℓ) (c : Dev nD) (z : FVec F S128x32768 .f32)
    (hz : z = masked (m ((c.tc : Thread nD τ).loc main_arg0)) (m ((c.tc : Thread nD τ).loc main_arg1))) :
    Value.res_main_v27 m c = result z (threshold (sums (sorted z)) (size (sorted z))) := by
  subst hz
  unfold Value.res_main_v27
  simp only [result, threshold, picked, inRow, wrapped, place, size, support, places, sums, sorted, masked]

end Cert.ReferenceIdeal.Stages

end
-- ==== Proof.RowSort.lean ====
module

public import proofs.«01_k».proof.Proof.RowIdeal

@[expose] public section

/-! # The threshold read off the sorted row

With the row in descending order, entry `k` is in the support when the sum of the first `k + 1` entries is less than one
plus `k + 1` times the entry. This module shows that the support is the set of entries above the exact threshold, and
that the mean over the support, less one over its size, is that threshold. -/

noncomputable section

namespace Cert.RowSort

open Idealize.ShloMosaic Cert.RowMath Cert.RowIdeal

variable {n : ℕ}

/-- The sum of the entries up to and including entry `k`. -/
def upTo (a : Fin n → EReal) (k : Fin n) : EReal := ∑ j, if j ≤ k then a j else 0

/-- Entry `k` of the descending row `a` is in the support. -/
def InSupport (a : Fin n → EReal) (k : Fin n) : Prop := upTo a k < 1 + (1 + ((k.val : ℝ) : EReal)) * a k

/-- The first `k + 1` of the positions. -/
theorem sum_const_le (k : Fin n) (r : ℝ) : (∑ j : Fin n, if j ≤ k then r else 0) = (1 + (k.val : ℝ)) * r := by
  rw [← Finset.sum_filter, Finset.sum_const, nsmul_eq_mul]
  have : (Finset.univ.filter fun j : Fin n => j ≤ k) = Finset.Iic k := by ext; simp
  rw [this, Fin.card_Iic]
  push_cast
  ring

/-- The size of a set of positions closed downwards is the first position outside it. -/
theorem lt_card_iff (P : Fin n → Prop) [DecidablePred P] (hP : ∀ i j, i ≤ j → P j → P i) (j : Fin n) :
    j.val < (Finset.univ.filter P).card ↔ P j := by
  constructor
  · intro h
    by_contra hj
    have hs : Finset.univ.filter P ⊆ Finset.Iio j := by
      intro i hi
      rw [Finset.mem_filter] at hi
      rw [Finset.mem_Iio]
      by_contra hlt
      exact hj (hP j i (not_lt.mp hlt) hi.2)
    have := Finset.card_le_card hs
    rw [Fin.card_Iio] at this
    omega
  · intro h
    have hs : Finset.Iic j ⊆ Finset.univ.filter P := by
      intro i hi
      rw [Finset.mem_Iic] at hi
      exact Finset.mem_filter.mpr ⟨Finset.mem_univ i, hP i j hi h⟩
    have := Finset.card_le_card hs
    rw [Fin.card_Iic] at this
    omega

variable {z : Fin n → EReal} {y : Fin n → ℝ} {p τ : ℝ} (hs : Same z y p) (hp : IsTop y p) (hτ : excess y τ = 1)
  (hpτ : p - 1 ≤ τ) (σ : Fin n ≃ Fin n) (hσ : ∀ i j, i ≤ j → z (σ j) ≤ z (σ i))

section support
include hs hp hτ hpτ hσ

/-- An entry that is a real number `r` is in the support exactly when it is above the threshold. -/
theorem support_real (k : Fin n) (r : ℝ) (hr : z (σ k) = (r : EReal)) :
    InSupport (fun j => z (σ j)) k ↔ τ < r := by
  have htop : ∀ j, z (σ j) ≠ ⊤ := by
    intro j hj
    rcases hs (σ j) with e | ⟨e, _⟩
    · rw [hj] at e; exact EReal.top_ne_coe _ e
    · rw [hj] at e; exact (EReal.coe_lt_top _).not_ge e
  have hx : ∀ j, j ≤ k → z (σ j) = (((z (σ j)).toReal : ℝ) : EReal) := by
    intro j hj
    refine (EReal.coe_toReal (htop j) ?_).symm
    intro hb
    have h := hσ j k hj
    rw [hb, hr] at h
    exact (EReal.bot_lt_coe r).not_ge h
  have hge : ∀ j, j ≤ k → r ≤ (z (σ j)).toReal := by
    intro j hj
    have h := hσ j k hj
    rw [hr, hx j hj] at h
    exact EReal.coe_le_coe_iff.mp h
  have habove : ∀ j, τ < y (σ j) → (z (σ j)).toReal = y (σ j) := by
    intro j hj
    rw [hs.eq_of_lt hpτ _ hj, EReal.toReal_coe]
  have hex : ∀ t : ℝ, excess y t = ∑ j, max (y (σ j) - t) 0 := fun t => (Equiv.sum_comp σ fun i => max (y i - t) 0).symm
  have hsum : upTo (fun j => z (σ j)) k = ((∑ j, (if j ≤ k then (z (σ j)).toReal else 0) : ℝ) : EReal) := by
    rw [coe_sum]
    refine Finset.sum_congr rfl fun j _ => ?_
    by_cases hj : j ≤ k
    · rw [if_pos hj, if_pos hj]; exact hx j hj
    · rw [if_neg hj, if_neg hj, EReal.coe_zero]
  have hiff : InSupport (fun j => z (σ j)) k ↔ (∑ j, if j ≤ k then (z (σ j)).toReal - r else 0) < 1 := by
    unfold InSupport
    dsimp only
    rw [hsum, hr, one_coe, ← EReal.coe_add, ← EReal.coe_mul, ← EReal.coe_add, EReal.coe_lt_coe_iff]
    have e : (∑ j, if j ≤ k then (z (σ j)).toReal - r else 0)
        = (∑ j, if j ≤ k then (z (σ j)).toReal else 0) - (1 + (k.val : ℝ)) * r := by
      rw [← sum_const_le k r, ← Finset.sum_sub_distrib]
      refine Finset.sum_congr rfl fun j _ => ?_
      split <;> ring
    rw [e]
    constructor <;> intro h <;> linarith
  rw [hiff]
  constructor
  · intro h
    by_contra hlt
    have hrτ := not_lt.mp hlt
    have hle : excess y τ ≤ ∑ j, if j ≤ k then (z (σ j)).toReal - r else 0 := by
      rw [hex]
      refine Finset.sum_le_sum fun j _ => ?_
      by_cases hj : τ < y (σ j)
      · have hjk : j ≤ k := by
          by_contra hn
          have h1 := hσ k j (not_le.mp hn).le
          rw [hr, hs.eq_of_lt hpτ _ hj, EReal.coe_le_coe_iff] at h1
          linarith
        rw [if_pos hjk, habove j hj, max_eq_left (by linarith)]
        linarith
      · rw [max_eq_right (by linarith)]
        by_cases hjk : j ≤ k
        · rw [if_pos hjk]; linarith [hge j hjk]
        · rw [if_neg hjk]
    linarith
  · intro h
    have hle : (∑ j, if j ≤ k then (z (σ j)).toReal - r else 0) ≤ excess y r := by
      rw [hex]
      refine Finset.sum_le_sum fun j _ => ?_
      by_cases hjk : j ≤ k
      · have h1 : ((τ : ℝ) : EReal) < z (σ j) := by
          rw [hx j hjk, EReal.coe_lt_coe_iff]; linarith [hge j hjk]
        rw [if_pos hjk, habove j ((hs.lt_iff hpτ _).mp h1)]
        exact le_max_left _ _
      · rw [if_neg hjk]; exact le_max_right _ _
    exact hle.trans_lt (excess_lt_one hp hτ h)

/-- The support is the set of entries above the threshold. -/
theorem support_iff (k : Fin n) : InSupport (fun j => z (σ j)) k ↔ (τ : EReal) < z (σ k) := by
  induction h : z (σ k) using EReal.rec with
  | bot =>
    refine ⟨fun hc => absurd hc ?_, fun hc => absurd hc not_lt_bot⟩
    unfold InSupport
    dsimp only
    rw [h, one_coe, ← EReal.coe_add, EReal.coe_mul_bot_of_pos (by positivity), EReal.add_bot]
    exact not_lt_bot
  | coe r => rw [support_real hs hp hτ hpτ σ hσ k r h, EReal.coe_lt_coe_iff]
  | top =>
    rcases hs (σ k) with e | ⟨e, _⟩
    · rw [h] at e; exact absurd e (EReal.top_ne_coe _)
    · rw [h] at e; exact absurd e (EReal.coe_lt_top _).not_ge

open Classical in
/-- The size of the support, the index of its last entry, and the threshold read there. -/
theorem threshold (m : ℕ) (hm : m = (Finset.univ.filter fun k => InSupport (fun j => z (σ j)) k).card) :
    ∃ k : Fin n, m = k.val + 1 ∧ Ideal.div (upTo (fun j => z (σ j)) k - 1) ((m : ℝ) : EReal) = (τ : EReal) := by
  have hτp := lt_top_of_excess hp hτ.ge
  have hset : (Finset.univ.filter fun k => InSupport (fun j => z (σ j)) k)
      = Finset.univ.filter fun k => (τ : EReal) < z (σ k) :=
    Finset.filter_congr fun k _ => support_iff hs hp hτ hpτ σ hσ k
  rw [hset] at hm
  have hlt : ∀ j : Fin n, j.val < m ↔ (τ : EReal) < z (σ j) := by
    intro j
    rw [hm]
    exact lt_card_iff (fun k => (τ : EReal) < z (σ k)) (fun i j hij h => h.trans_le (hσ i j hij)) j
  have hnum : ((m : ℝ) : EReal) = number z (τ : EReal) := by
    unfold number
    rw [← Equiv.sum_comp σ, hm, Finset.card_filter]
    push_cast
    rw [coe_sum]
    refine Finset.sum_congr rfl fun j _ => ?_
    split
    · exact EReal.coe_one
    · exact EReal.coe_zero
  have hm1 : 1 ≤ m := by
    have h1 := one_le_count hp hτp
    rw [hs.number_eq hpτ, EReal.coe_eq_coe_iff] at hnum
    rw [← hnum] at h1
    exact_mod_cast h1
  have hmn : m ≤ n := by
    rw [hm]
    exact (Finset.card_le_univ _).trans_eq (Fintype.card_fin n)
  refine ⟨⟨m - 1, by omega⟩, by dsimp only; omega, ?_⟩
  have hup : upTo (fun j => z (σ j)) ⟨m - 1, by omega⟩ = total z (τ : EReal) := by
    unfold upTo total
    rw [← Equiv.sum_comp σ fun i => if (τ : EReal) < z i then z i else 0]
    refine Finset.sum_congr rfl fun j _ => ?_
    have e : j ≤ (⟨m - 1, by omega⟩ : Fin n) ↔ (τ : EReal) < z (σ j) := by
      rw [← hlt j, Fin.le_def]
      dsimp only
      omega
    by_cases hj : (τ : EReal) < z (σ j)
    · rw [if_pos (e.mpr hj), if_pos hj]
    · rw [if_neg (fun hc => hj (e.mp hc)), if_neg hj]
  rw [hup, hnum, hs.newton_eq hpτ hp hτp, newton_root hp hτ]

end support

end Cert.RowSort

end
-- ==== Proof.RefRow.lean ====
module

public import proofs.«01_k».proof.Proof.RefStages
public import proofs.«01_k».proof.Proof.RowSort
public import proofs.«01_k».proof.Proof.RowTop
public import Idealize.ShloMosaic.Lib.Pointwise
public import Idealize.ShloMosaic.Lib.SortFacts
public import Idealize.ShloMosaic.Lib.Routing.Ops
public import Idealize.ShloMosaic.Lib.StableHlo.Predicate

@[expose] public section

set_option maxRecDepth 16384

/-! # The reference, read at a row

Over the extended reals: the sorted row is the row in descending order, the sums along it are its prefix sums, the size
is the number of entries in the support, and the value read is the prefix sum at the last of them. -/

noncomputable section

namespace Cert.ReferenceIdeal.Stages

open Cert.ReferenceIdeal Cert.ReferenceIdeal.Gen Idealize.ShloMosaic Idealize.ShloMosaic.TcCoe Cert.RowMath Cert.RowIdeal
  Cert.RowSort

/-- Row `R` of an array. -/
def row (x : FVec Ideal S128x32768 .f32) (R : Fin 128) (k : Fin 32768) : EReal := x (ix2 R k)

/-- A row of the masked scores. -/
theorem row_masked (x : FVec Ideal S128x32768 .f32) (b : IVec S128x32768 1) (R : Fin 128) :
    row (masked x b) R = maskedRow (row x R) (fun k => b (ix2 R k)) ⊥ := by
  funext k
  unfold row masked maskedRow
  rw [← ofBits_bot]
  rfl

/-! ## The sort -/

/-- The comparator of the sort is the order. -/
theorem comparator_iff (a b : EReal) : comparator_f32_d1 (F := Ideal) a b = 1#1 ↔ a < b := by
  have h : ∀ x : EReal, Scalar.select (FloatOps.cmpf (F := Ideal) (φ := .f32) .une x x)
      (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h1 : FloatOps.cmpf (F := Ideal) (φ := .f32) .une x x = 0#1 := by
      show BitVec.ofBool (decide (x ≠ x)) = 0#1
      simp
    rw [h1]
    show Scalar.select (BitVec.ofBool (decide (x = _))) _ x = x
    by_cases hx : x = FloatOps.ofBits (F := Ideal) .f32 0x00000000#32
    · rw [decide_eq_true hx]; exact hx.symm
    · rw [decide_eq_false hx]; rfl
  unfold comparator_f32_d1
  dsimp only
  rw [h a, h b]
  show BitVec.ofBool (decide (a < b)) = 1#1 ↔ a < b
  by_cases hab : a < b
  · rw [decide_eq_true hab]; simp [hab]
  · rw [decide_eq_false hab]; simp [hab]

/-- The entry `k` of row `R`, named along the row. -/
theorem along_ix2 (R : Fin 128) (q k : Fin 32768) :
    Shape.Idx.along (s := S128x32768) (ix2 R q) (1 : Fin 2) k = ix2 R k := by
  funext a
  unfold Shape.Idx.along
  match a with
  | ⟨0, _⟩ => exact Function.update_of_ne (fun h => Nat.zero_ne_one (congrArg Fin.val h)) _ _
  | ⟨1, _⟩ => exact Function.update_self ..

section order
variable {n : ℕ} (z : Fin n → EReal)

/-- Which entry of row `z` the ascending sort puts at a position. -/
def ascending : Fin n → Fin n := sortedFrom fun k k' => comparator_f32_d1 (F := Ideal) (z k) (z k') == 1#1

/-- Which entry of row `z` the descending order puts at a position. -/
def descending : Fin n ≃ Fin n :=
  Equiv.ofBijective (fun k => ascending z k.rev)
    ⟨fun _ _ h => Fin.rev_injective (sortedFrom_injective _ h), fun i => by
      obtain ⟨k, hk⟩ := sortedFrom_surjective (fun k k' => comparator_f32_d1 (F := Ideal) (z k) (z k') == 1#1) i
      exact ⟨k.rev, by dsimp only; rw [Fin.rev_rev]; exact hk⟩⟩

/-- The descending order is the ascending one read from the end. -/
theorem descending_apply (k : Fin n) : descending z k = ascending z k.rev := rfl

/-- That order is descending. -/
theorem descending_le (i j : Fin n) (hij : i ≤ j) : z (descending z j) ≤ z (descending z i) := by
  rcases hij.eq_or_lt with rfl | hlt
  · exact le_refl _
  have hb : ∀ a b : Fin n, (comparator_f32_d1 (F := Ideal) (z a) (z b) == 1#1) = true ↔ z a < z b := by
    intro a b
    rw [beq_iff_eq, comparator_iff]
  have hf : ∀ a b : Fin n, (comparator_f32_d1 (F := Ideal) (z a) (z b) == 1#1) = false ↔ z b ≤ z a := by
    intro a b
    rw [← not_lt, ← hb a b, Bool.not_eq_true]
  have h := sortedFrom_noInversion (fun k k' => comparator_f32_d1 (F := Ideal) (z k) (z k') == 1#1)
    (fun k k' => comparator_f32_d1 (F := Ideal) (z k) (z k') == 1#1)
    (fun a b hab => (hf b a).mpr ((hb a b).mp hab).le) (fun a b hab => hab)
    (fun a b c hab hbc => (hf a c).mpr (((hf b c).mp hbc).trans ((hf a b).mp hab)))
    j.rev i.rev (Fin.rev_lt_rev.mpr hlt)
  rw [descending_apply, descending_apply]
  exact (hf _ _).mp h

end order

/-- The sorted array at an entry. -/
theorem sort_apply (z : FVec Ideal S128x32768 .f32) (R : Fin 128) (k : Fin 32768) :
    Host.sort S128x32768 1 (comparator_f32_d1 (F := Ideal)) z (ix2 R k) = row z R (ascending (row z R) k) := by
  unfold Host.sort
  rw [dif_pos (by decide)]
  refine (congrArg z (along_ix2 R k _)).trans (congrArg (row z R) ?_)
  unfold ascending
  refine congrArg (fun B => sortedFrom B k) ?_
  funext k1 k2
  exact congrArg₂ (fun a b => comparator_f32_d1 (F := Ideal) a b == 1#1) (congrArg z (along_ix2 R k k1))
    (congrArg z (along_ix2 R k k2))

/-- The sorted row holds the entries of the row in that order. -/
theorem row_sorted (z : FVec Ideal S128x32768 .f32) (R : Fin 128) :
    row (sorted z) R = fun k => row z R (descending (row z R) k) := by
  funext k
  have e : (fun a : Fin S128x32768.rank => if a ∈ [1] then ((ix2 R k : S128x32768.Idx) a).rev else (ix2 R k : S128x32768.Idx) a)
      = (ix2 R k.rev : S128x32768.Idx) := by
    funext a
    match a with
    | ⟨0, _⟩ => rfl
    | ⟨1, _⟩ => rfl
  show Host.reverse [1] (Host.sort S128x32768 1 (comparator_f32_d1 (F := Ideal)) z) (ix2 R k) = _
  unfold Host.reverse
  rw [e, sort_apply, descending_apply]

/-! ## The sums along a row -/

/-- A left fold of additions is the starting value plus the sum. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The host's window sum along the rows, padded in front by one less than the row's length, gives the prefix sums. -/
theorem window_apply {M N L : ℕ} (hN : L + 1 = N) (x : (⟨2, ![M, N]⟩ : Shape).Idx → EReal)
    (h : (⟨2, ![M, N]⟩ : Shape).ReduceWindows (![1, N] : Fin 2 → Nat) ![1, 1] ![0, L] ![0, 0] ⟨2, ![M, N]⟩)
    {u : Shape} (hu : 0 < u.numel) (R : Fin M) (k : Fin N) :
    Host.reduceWindow (· + ·) ![1, N] ![1, 1] ![0, L] ![0, 0] x (fun _ : u.Idx => (0 : EReal)) h hu (ix2 R k)
      = upTo (fun j => x (ix2 R j)) k := by
  subst hN
  have hk := k.isLt
  unfold Host.reduceWindow
  dsimp only
  rw [foldl_add, zero_add, ← List.ofFn_eq_map, List.sum_ofFn]
  unfold upTo
  have hval : ∀ n : Fin (Routing.shape2 1 (L + 1)).numel,
      ((Routing.shape2 1 (L + 1)).rowMajor.symm n 0).val = 0
        ∧ ((Routing.shape2 1 (L + 1)).rowMajor.symm n 1).val = n.val := by
    intro n
    rw [Routing.symm2]
    exact ⟨rfl, rfl⟩
  have hnum : (Routing.shape2 1 (L + 1)).numel = L + 1 := Routing.numel2 _
  refine (Finset.sum_congr rfl (g := fun n : Fin (Routing.shape2 1 (L + 1)).numel =>
    if hle : L ≤ k.val + n.val then x (ix2 R ⟨k.val + n.val - L, by have := n.isLt; omega⟩) else 0) fun n _ => ?_).trans ?_
  · obtain ⟨e0, e1⟩ := hval n
    have hn : n.val < L + 1 := lt_of_lt_of_eq n.isLt hnum
    by_cases hle : L ≤ k.val + n.val
    · rw [dif_pos hle, dif_pos (by
        intro a
        match a with
        | ⟨0, _⟩ =>
          show 0 ≤ R.val * 1 + ((Routing.shape2 1 (L + 1)).rowMajor.symm n 0).val
            ∧ R.val * 1 + ((Routing.shape2 1 (L + 1)).rowMajor.symm n 0).val - 0 < M
          rw [e0]; have := R.isLt; omega
        | ⟨1, _⟩ =>
          show L ≤ k.val * 1 + ((Routing.shape2 1 (L + 1)).rowMajor.symm n 1).val
            ∧ k.val * 1 + ((Routing.shape2 1 (L + 1)).rowMajor.symm n 1).val - L < L + 1
          rw [e1]; omega)]
      refine congrArg x (funext fun a => Fin.ext ?_)
      match a with
      | ⟨0, _⟩ =>
        show R.val * 1 + ((Routing.shape2 1 (L + 1)).rowMajor.symm n 0).val - 0 = R.val
        rw [e0]; omega
      | ⟨1, _⟩ =>
        show k.val * 1 + ((Routing.shape2 1 (L + 1)).rowMajor.symm n 1).val - L = k.val + n.val - L
        rw [e1]; omega
    · rw [dif_neg hle, dif_neg]
      intro hin
      have h1 : L ≤ k.val * 1 + ((Routing.shape2 1 (L + 1)).rowMajor.symm n 1).val := (hin 1).1
      rw [e1] at h1
      omega
  have hsplit : ∀ n : Fin (Routing.shape2 1 (L + 1)).numel, (if hle : L ≤ k.val + n.val
      then x (ix2 R ⟨k.val + n.val - L, by have := n.isLt; omega⟩) else (0 : EReal)) ≠ 0 → L ≤ k.val + n.val := by
    intro n hne
    by_contra hc
    exact hne (dif_neg hc)
  refine Finset.sum_bij_ne_zero (fun n _ _ => ⟨k.val + n.val - L, by have := n.isLt; omega⟩) ?_ ?_ ?_ ?_
  · intro n _ _; exact Finset.mem_univ _
  · intro n _ hn n' _ hn' heq
    have h1 := hsplit n hn
    have h2 := hsplit n' hn'
    have h3 : k.val + n.val - L = k.val + n'.val - L := congrArg Fin.val heq
    exact Fin.ext (by omega)
  · intro j _ hj
    have hjk : j ≤ k := by
      by_contra hc
      exact hj (if_neg hc)
    rw [if_pos hjk] at hj
    have hjk' : j.val ≤ k.val := hjk
    have ej : (⟨k.val + (L + j.val - k.val) - L, by omega⟩ : Fin (L + 1)) = j := Fin.ext (by dsimp only; omega)
    refine ⟨⟨L + j.val - k.val, by omega⟩, Finset.mem_univ _, ?_, ej⟩
    rw [dif_pos (by dsimp only; omega)]
    dsimp only
    rw [ej]
    exact hj
  · intro n _ hn
    have h1 := hsplit n hn
    have hn' := n.isLt
    rw [dif_pos h1, if_pos (by rw [Fin.le_def]; dsimp only; omega)]

/-- Over the extended reals the host's window sum is the fold of additions. -/
theorem window_fold {s t u : Shape} (window strides lo hi : Fin s.rank → Nat) (x : FVec Ideal s .f32)
    (init : FVec Ideal u .f32) (h : s.ReduceWindows window strides lo hi t) (hu : 0 < u.numel) :
    Host.reduceWindowAdd (F := Ideal) window strides lo hi x init h hu
      = Host.reduceWindow (· + ·) window strides lo hi x
          (fun _ : (⟨0, ![]⟩ : Shape).Idx => (init (Shape.Idx.first hu) : EReal)) h (by decide) := rfl

/-- A row of the sums. -/
theorem row_sums (a : FVec Ideal S128x32768 .f32) (R : Fin 128) : row (sums a) R = upTo (row a R) := by
  funext k
  have e : (broadcastInDim S_ ![] bcast_S_S_ (constant S_ .f32 0x00000000#32) : FVec Ideal S_ .f32) (Shape.Idx.first h_S_)
      = (0 : EReal) := Ideal.ofBits_zero_f32
  unfold row sums
  rw [window_fold, e]
  exact window_apply (L := 32767) (by norm_num) a _ _ R k

end Cert.ReferenceIdeal.Stages

end
-- ==== Proof.RefThreshold.lean ====
module

public import proofs.«01_k».proof.Proof.RefRow
public import Idealize.ShloMosaic.Lib.ReduceAll
public import Idealize.ShloMosaic.Lib.WordCmp

@[expose] public section

set_option maxRecDepth 16384

/-! # The threshold the reference computes

`threshold_real` says it is the exact threshold of every row, given one for each. -/

noncomputable section

namespace Cert.ReferenceIdeal.Stages

open Cert.ReferenceIdeal Cert.ReferenceIdeal.Gen Idealize.ShloMosaic Idealize.ShloMosaic.TcCoe Cert.RowMath Cert.RowIdeal
  Cert.RowSort

/-! ## The support -/

/-- A small natural number, as a word and then as a float, is itself. -/
theorem float_ofNat (k : ℕ) (hk : k < 2 ^ 31) :
    (FloatOps.sitofp (F := Ideal) .f32 (BitVec.ofNat 32 k) : EReal) = ((k : ℝ) : EReal) := by
  show (((BitVec.ofNat 32 k).toInt : ℝ) : EReal) = _
  rw [WordCmp.toInt_ofNat_of_lt hk]
  norm_num

/-- One plus the position. -/
theorem places_apply (R : Fin 128) (k : Fin 32768) :
    places (F := Ideal) (ix2 R k) = (1 : EReal) + ((k.val : ℝ) : EReal) := by
  have hk : k.val < 2 ^ 31 := lt_trans k.isLt (by norm_num)
  rw [← float_ofNat k.val hk, ← Ideal.ofBits_one_f32]
  rfl

/-- The support bit of an entry. -/
theorem support_apply (a : FVec Ideal S128x32768 .f32) (R : Fin 128) (k : Fin 32768) :
    support a (ix2 R k) = 1#1 ↔ InSupport (row a R) k := by
  have e : support a (ix2 R k)
      = BitVec.ofBool (decide (row (sums a) R k < Ideal.ofBits .f32 0x3F800000#32 + places (F := Ideal) (ix2 R k) * row a R k)) := by
    unfold support row
    rfl
  rw [e, places_apply, row_sums, Ideal.ofBits_one_f32]
  unfold InSupport
  by_cases h : upTo (row a R) k < 1 + (1 + ((k.val : ℝ) : EReal)) * row a R k
  · rw [decide_eq_true h]; exact ⟨fun _ => h, fun _ => rfl⟩
  · rw [decide_eq_false h]; exact ⟨fun hc => absurd hc (by decide), fun hc => absurd hc h⟩

open Classical in
/-- The size of the support, as a number. -/
theorem size_toNat (a : FVec Ideal S128x32768 .f32) (R : Fin 128) :
    (size a (ix1 R)).toNat = (Finset.univ.filter fun k => InSupport (row a R) k).card := by
  unfold size
  refine (StableHlo.Predicate.toNat_reduce_count_cols (by norm_num) (support a) natLt_1_32
    reducesTo_S128x32768_S128_d1 h_S_ (ix1 R)).trans (congrArg Finset.card (Finset.filter_congr fun k _ => ?_))
  rw [← support_apply]
  show support a (StableHlo.Predicate.ij R k) = 1#1 ↔ _
  rw [Routing.ij_eq_ix2]
  exact Iff.rfl

/-! ## The value read -/

/-- One less than the word of `k + 1` is the word of `k`. -/
theorem word_pred (k : ℕ) : IntOp.subi (BitVec.ofNat 32 (k + 1)) 1#32 = BitVec.ofNat 32 k := by
  show BitVec.ofNat 32 (k + 1) - 1#32 = _
  rw [BitVec.ofNat_add]
  exact BitVec.add_sub_cancel _ _

section read
variable (n : IVec S128 32) (K : Fin 128 → Fin 32768) (hK : ∀ R, n (ix1 R) = BitVec.ofNat 32 ((K R).val + 1))
include hK

/-- The position read in a row. -/
theorem place_apply (R : Fin 128) : place n (ix2 R (0 : Fin 1)) = BitVec.ofNat 32 (K R).val := by
  rw [← word_pred, ← hK R]
  unfold place
  pointwise

/-- It is not negative, so it is not wrapped. -/
theorem wrapped_apply (R : Fin 128) : wrapped (place n) (ix3 R (0 : Fin 1) (0 : Fin 1)) = BitVec.ofNat 32 (K R).val := by
  have hk : (K R).val < 2 ^ (32 - 1) := lt_trans (K R).isLt (by norm_num)
  unfold wrapped
  pointwise
  rw [place_apply n K hK, show (0#32 : BitVec 32) = BitVec.ofNat 32 0 from rfl, WordCmp.cmpi_slt_ofNat hk (by norm_num)]
  simp [Scalar.select]

/-- It is a position of the row. -/
theorem inRow_apply (R : Fin 128) : inRow (wrapped (place n)) (ix2 R (0 : Fin 1)) = 1#1 := by
  unfold inRow
  refine Host.reduce_andi_one _ _ _ _ _ rfl fun i => ?_
  obtain ⟨Q, rfl⟩ : ∃ Q : Fin 128, i = ix3 Q (0 : Fin 1) (0 : Fin 1) := ⟨i 0, by
    funext a
    match a with
    | ⟨0, _⟩ => rfl
    | ⟨1, _⟩ => exact Subsingleton.elim (α := Fin 1) _ _
    | ⟨2, _⟩ => exact Subsingleton.elim (α := Fin 1) _ _⟩
  have hk := (K Q).isLt
  pointwise
  rw [wrapped_apply n K hK, show (0#32 : BitVec 32) = BitVec.ofNat 32 0 from rfl,
    show (32767#32 : BitVec 32) = BitVec.ofNat 32 32767 from rfl,
    WordCmp.cmpi_sge_ofNat (by omega) (by norm_num), WordCmp.cmpi_sle_ofNat (by omega) (by norm_num)]
  have : (K Q).val ≤ 32767 := by omega
  simp [this, IntOp.andi]

/-- The gather reads the entry at that position. -/
theorem gather_apply (s : FVec Ideal S128x32768 .f32) (R : Fin 128) :
    Host.gather gather_S128x32768_S128x1x1_S128x1_n_1_0_0_1_2_11 s (wrapped (place n)) (ix2 R (0 : Fin 1))
      = row s R (K R) := by
  have hk := (K R).isLt
  unfold Host.gather row
  refine congrArg s (funext fun a => Fin.ext ?_)
  show gather_S128x32768_S128x1x1_S128x1_n_1_0_0_1_2_11.start (ix2 R (0 : Fin 1)) (wrapped (place n)) a
      + gather_S128x32768_S128x1x1_S128x1_n_1_0_0_1_2_11.batchCoord (ix2 R (0 : Fin 1)) a
      + gather_S128x32768_S128x1x1_S128x1_n_1_0_0_1_2_11.offCoord (ix2 R (0 : Fin 1)) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S128x32768_S128x1x1_S128x1_n_1_0_0_1_2_11.operandBatchingDims from List.mem_singleton.mpr rfl)]
    rfl
  · rw [GatherDims.batchCoord_eq_zero _ _ _ (fun h => by simp [gather_S128x32768_S128x1x1_S128x1_n_1_0_0_1_2_11] at h),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S128x32768_S128x1x1_S128x1_n_1_0_0_1_2_11.startIndexMap from List.mem_singleton.mpr rfl)]
    have hsi : gather_S128x32768_S128x1x1_S128x1_n_1_0_0_1_2_11.siIdx (ix2 R (0 : Fin 1))
        ⟨List.idxOf (1 : Fin 2) gather_S128x32768_S128x1x1_S128x1_n_1_0_0_1_2_11.startIndexMap,
          List.idxOf_lt_length_iff.2 (List.mem_singleton.mpr rfl)⟩ = ix3 R (0 : Fin 1) (0 : Fin 1) := by
      funext b
      refine Fin.ext ?_
      match b with
      | ⟨0, _⟩ => rfl
      | ⟨1, _⟩ => rfl
      | ⟨2, _⟩ => rfl
    rw [hsi, wrapped_apply n K hK, WordCmp.toInt_ofNat_of_lt (by omega)]
    show min (K R).val (32768 - 1) = (K R).val
    omega

/-- The threshold, once the positions read are known. -/
theorem threshold_apply (s : FVec Ideal S128x32768 .f32) (R : Fin 128) :
    threshold s n (ix2 R (0 : Fin 1)) = Ideal.div (row s R (K R) - 1) ((((K R).val + 1 : ℕ) : ℝ) : EReal) := by
  have hk := (K R).isLt
  rw [← float_ofNat ((K R).val + 1) (by omega), ← hK R, ← gather_apply n K hK s R, ← Ideal.ofBits_one_f32]
  have hp : picked s (wrapped (place n)) (ix2 R (0 : Fin 1))
      = Host.gather gather_S128x32768_S128x1x1_S128x1_n_1_0_0_1_2_11 s (wrapped (place n)) (ix2 R (0 : Fin 1)) := by
    unfold picked
    show Scalar.select (inRow (wrapped (place n)) (ix2 R (0 : Fin 1))) _ _ = _
    rw [inRow_apply n K hK]
    rfl
  rw [← hp]
  unfold threshold
  pointwise

end read

/-- The result at an entry. -/
theorem result_apply (z : FVec Ideal S128x32768 .f32) (t : FVec Ideal S128x1 .f32) (R : Fin 128) (k : Fin 32768) :
    result z t (ix2 R k) = max (row z R k - t (ix2 R (0 : Fin 1))) 0 := by
  rw [← Ideal.ofBits_zero_f32]
  unfold result row
  pointwise

/-- The threshold of every row is the exact one, when each row has one. -/
theorem threshold_real (z : FVec Ideal S128x32768 .f32) (y : Fin 128 → Fin 32768 → ℝ) (p τ : Fin 128 → ℝ)
    (hs : ∀ R, Same (row z R) (y R) (p R)) (hp : ∀ R, IsTop (y R) (p R)) (hτ : ∀ R, excess (y R) (τ R) = 1)
    (hpτ : ∀ R, p R - 1 ≤ τ R) (R : Fin 128) :
    threshold (sums (sorted z)) (size (sorted z)) (ix2 R (0 : Fin 1)) = ((τ R : ℝ) : EReal) := by
  have h : ∀ R, ∃ k : Fin 32768, (size (sorted z) (ix1 R)).toNat = k.val + 1 ∧ Ideal.div
      (upTo (row (sorted z) R) k - 1) ((((size (sorted z) (ix1 R)).toNat : ℕ) : ℝ) : EReal) = ((τ R : ℝ) : EReal) := by
    intro R
    have hm := size_toNat (sorted z) R
    rw [row_sorted] at hm ⊢
    exact RowSort.threshold (hs R) (hp R) (hτ R) (hpτ R) (descending (row z R)) (descending_le (row z R)) _ hm
  choose K hK using h
  rw [threshold_apply (size (sorted z)) K (fun R => by rw [← (hK R).1, BitVec.ofNat_toNat, BitVec.setWidth_eq]),
    row_sums, ← (hK R).1]
  exact (hK R).2

end Cert.ReferenceIdeal.Stages

end
-- ==== Proof.PreStages.lean ====
module

public import proofs.«01_k».proof.Pre_settled
public import proofs.«01_k».proof.Proof.RowTop
public import Idealize.ShloMosaic.Lib.Pointwise

@[expose] public section

set_option maxRecDepth 16384

/-! # The precondition, stage by stage

The precondition asks that the top of the row, less one, is at least the kernel's large negative number, that it is
finite, and that the sixth Newton step leaves every entry either below the fifth threshold or at least the sixth. -/

noncomputable section

namespace Cert.Pre_settled.Stages

open Cert.Pre_settled Cert.Pre_settled.Facts Idealize.ShloMosaic Idealize.ShloMosaic.TcCoe Cert.RowMath Cert.RowIdeal

variable [Facts]

section stages
variable {F : FTy → Type} [FloatOps F]

/-- The scores with minus infinity where they are masked. -/
def masked (x : FVec F S128x32768 .f32) (b : IVec S128x32768 1) : FVec F S128x32768 .f32 :=
  select b x (broadcastInDim S128x32768 ![] bcast_S_S128x32768 (id (constant S_ .f32 0xFF800000#32)))

/-- The largest entry of every row. -/
def rowTop (z : FVec F S128x32768 .f32) : FVec F S128x1 .f32 :=
  broadcastInDim S128x1 ![0] bcast_S128_S128x1_0
    (Host.reduce FloatOps.maximumf z (constant S_ .f32 0xFF800000#32) reducesTo_S128x32768_S128_d1 h_S_)

/-- One, for every row. -/
def ones : FVec F S128x1 .f32 := broadcastInDim S128x1 ![] bcast_S_S128x1 (constant S_ .f32 0x3F800000#32)

/-- Which entries are above the threshold of their row. -/
def over (z : FVec F S128x32768 .f32) (t : FVec F S128x1 .f32) : IVec S128x32768 1 :=
  cmpf .ogt z (broadcastInDim S128x32768 ![0, 1] bcast_S128x1_S128x32768_0_1 t)

/-- The number of entries above the threshold of every row. -/
def countOf (z : FVec F S128x32768 .f32) (t : FVec F S128x1 .f32) : FVec F S128x1 .f32 :=
  broadcastInDim S128x1 ![0] bcast_S128_S128x1_0
    (Host.reduceAdd (id (select (over z t) (broadcastInDim S128x32768 ![] bcast_S_S128x32768 (constant S_ .f32 0x3F800000#32))
      (broadcastInDim S128x32768 ![] bcast_S_S128x32768 (constant S_ .f32 0x00000000#32))))
      (constant S_ .f32 0x00000000#32) reducesTo_S128x32768_S128_d1 h_S_)

/-- The sum of the entries above the threshold of every row. -/
def sumOf (z : FVec F S128x32768 .f32) (t : FVec F S128x1 .f32) : FVec F S128x1 .f32 :=
  broadcastInDim S128x1 ![0] bcast_S128_S128x1_0
    (Host.reduceAdd (select (over z t) z (broadcastInDim S128x32768 ![] bcast_S_S128x32768 (id (constant S_ .f32 0x00000000#32))))
      (constant S_ .f32 0x00000000#32) reducesTo_S128x32768_S128_d1 h_S_)

/-- A Newton step in every row. -/
def step (z : FVec F S128x32768 .f32) (t : FVec F S128x1 .f32) : FVec F S128x1 .f32 :=
  Host.divf (subf (sumOf z t) ones) (countOf z t)

/-- The thresholds the steps start from. -/
def start (z : FVec F S128x32768 .f32) : FVec F S128x1 .f32 := subf (rowTop z) ones

/-- Whether the top of every row is in range. -/
def inRange (z : FVec F S128x32768 .f32) : IVec S128x1 1 :=
  andi (cmpf .oge (subf (rowTop z) ones) (broadcastInDim S128x1 ![] bcast_S_S128x1 (constant S_ .f32 0xFF7FC99E#32)))
    (cmpf .olt (rowTop z) (broadcastInDim S128x1 ![] bcast_S_S128x1 (constant S_ .f32 0x7F800000#32)))

/-- The precondition at every entry. -/
def verdict (z : FVec F S128x32768 .f32) (t : FVec F S128x1 .f32) : IVec S128x32768 1 :=
  andi (broadcastInDim S128x32768 ![0, 1] bcast_S128x1_S128x32768_0_1 (inRange z))
    (ori (cmpf .ole z (broadcastInDim S128x32768 ![0, 1] bcast_S128x1_S128x32768_0_1 t))
      (cmpf .oge z (broadcastInDim S128x32768 ![0, 1] bcast_S128x1_S128x32768_0_1 (step z t))))

/-- The first part of the precondition gets as far as the first sums and counts. -/
theorem fn_first (x : FVec F S128x32768 .f32) (b : IVec S128x32768 1) : fn (F := F) x b
    = fn_part1 (masked x b) (rowTop (masked x b)) (countOf (masked x b) (start (masked x b)))
        (sumOf (masked x b) (start (masked x b))) ones := by
  simp only [fn, fn_where, fn_where_0, fn_where_1, start, sumOf, countOf, over, ones, rowTop, masked]

/-- The second part takes two steps. -/
theorem part1_eq (z : FVec F S128x32768 .f32) (top t : FVec F S128x1 .f32) :
    fn_part1 z top (countOf z t) (sumOf z t) ones = fn_part2 z top (over z (step z (step z t)))
      (constant S_ .f32 0x3F800000#32) (constant S_ .f32 0x00000000#32) := by
  simp only [fn_part1, fn_where_0, fn_where_1, step, sumOf, countOf, over, ones]

/-- The third part takes one step. -/
theorem part2_eq (z : FVec F S128x32768 .f32) (top t : FVec F S128x1 .f32) :
    fn_part2 z top (over z t) (constant S_ .f32 0x3F800000#32) (constant S_ .f32 0x00000000#32)
      = fn_part3 z top (over z (step z t)) (countOf z (step z t)) (constant S_ .f32 0x00000000#32) := by
  simp only [fn_part2, fn_where_0, fn_where_1, step, sumOf, countOf, over, ones]

/-- The fourth part takes one step. -/
theorem part3_eq (z : FVec F S128x32768 .f32) (top t : FVec F S128x1 .f32) :
    fn_part3 z top (over z t) (countOf z t) (constant S_ .f32 0x00000000#32)
      = fn_part4 z top (countOf z (step z t)) (sumOf z (step z t)) ones := by
  simp only [fn_part3, fn_where_0, fn_where_1, step, sumOf, countOf, over, ones]

/-- The last parts take one step and test the next. -/
theorem part4_eq (z : FVec F S128x32768 .f32) (t : FVec F S128x1 .f32) :
    fn_part4 z (rowTop z) (countOf z t) (sumOf z t) ones = verdict z (step z t) := by
  simp only [fn_part4, fn_part5, fn_where_0, fn_where_1, verdict, inRange, start, step, sumOf, countOf, over, ones]

/-- The precondition as those stages. -/
theorem fn_eq (x : FVec F S128x32768 .f32) (b : IVec S128x32768 1) : fn (F := F) x b
      = verdict (masked x b) (step (masked x b) (step (masked x b) (step (masked x b) (step (masked x b) (step (masked x b)
          (start (masked x b))))))) := by
  rw [fn_first, part1_eq, part2_eq, part3_eq, part4_eq]

end stages

end Cert.Pre_settled.Stages

end
-- ==== Proof.PreRow.lean ====
module

public import proofs.«01_k».proof.Proof.PreStages

@[expose] public section

set_option maxRecDepth 16384

/-! # What the precondition says of a row

`exact_row`: under the precondition one real row stands for a row of the reference and of the kernel, and its sixth
Newton iterate is its exact threshold. -/

noncomputable section

namespace Cert.Pre_settled.Stages

open Cert.Pre_settled Cert.Pre_settled.Facts Idealize.ShloMosaic Idealize.ShloMosaic.TcCoe Cert.RowMath Cert.RowIdeal

variable [Facts]

/-- Row `R` of an array. -/
def row (x : FVec Ideal S128x32768 .f32) (R : Fin 128) (k : Fin 32768) : EReal := x (ix2 R k)

/-- A row of the masked scores. -/
theorem row_masked (x : FVec Ideal S128x32768 .f32) (b : IVec S128x32768 1) (R : Fin 128) :
    row (masked x b) R = maskedRow (row x R) (fun k => b (ix2 R k)) ⊥ := by
  funext k
  unfold row masked maskedRow
  rw [← ofBits_bot]
  rfl

/-- Choosing by a decided bit is choosing by the proposition. -/
theorem select_decided {α : Type} (q : Prop) [Decidable q] (a b : α) :
    Scalar.select (BitVec.ofBool (decide q)) a b = if q then a else b := by
  by_cases h : q
  · rw [decide_eq_true h, if_pos h]; rfl
  · rw [decide_eq_false h, if_neg h]; rfl

/-- A decided bit is one exactly when the proposition holds. -/
theorem decided_iff (q : Prop) [Decidable q] : BitVec.ofBool (decide q) = 1#1 ↔ q := by
  by_cases h : q
  · rw [decide_eq_true h]; exact ⟨fun _ => h, fun _ => rfl⟩
  · rw [decide_eq_false h]; exact ⟨fun hc => absurd hc (by decide), fun hc => absurd hc h⟩

/-- Two bits are both one exactly when their conjunction is. -/
theorem and_iff (a b : BitVec 1) : IntOp.andi a b = 1#1 ↔ a = 1#1 ∧ b = 1#1 := by
  revert a b; decide

/-- One of two bits is one exactly when their disjunction is. -/
theorem or_iff (a b : BitVec 1) : IntOp.ori a b = 1#1 ↔ a = 1#1 ∨ b = 1#1 := by
  revert a b; decide

variable (z : FVec Ideal S128x32768 .f32) (t : FVec Ideal S128x1 .f32) (R : Fin 128)

/-- Whether an entry is above its row's threshold. -/
theorem over_apply (k : Fin 32768) :
    over z t (ix2 R k) = BitVec.ofBool (decide (t (ix2 R (0 : Fin 1)) < z (ix2 R k))) := by
  unfold over
  pointwise

/-- Choosing the entry where it is above and zero elsewhere. -/
theorem pickEntry_apply (k : Fin 32768) :
    select (over z t) z (broadcastInDim S128x32768 ![] bcast_S_S128x32768 (id (constant (F := Ideal) S_ .f32 0x00000000#32)))
      (ix2 R k) = if t (ix2 R (0 : Fin 1)) < row z R k then row z R k else 0 := by
  rw [← select_decided, ← Ideal.ofBits_zero_f32]
  unfold row
  rw [← over_apply]
  rfl

/-- Choosing one where the entry is above and zero elsewhere. -/
theorem pickOne_apply (k : Fin 32768) :
    (id (select (over z t) (broadcastInDim S128x32768 ![] bcast_S_S128x32768 (constant (F := Ideal) S_ .f32 0x3F800000#32))
      (broadcastInDim S128x32768 ![] bcast_S_S128x32768 (constant (F := Ideal) S_ .f32 0x00000000#32)))
      : FVec Ideal S128x32768 .f32) (ix2 R k) = if t (ix2 R (0 : Fin 1)) < row z R k then 1 else 0 := by
  rw [← select_decided, ← Ideal.ofBits_zero_f32, ← Ideal.ofBits_one_f32]
  unfold row
  rw [← over_apply]
  rfl

/-- The sum above the threshold, at a row. -/
theorem sumOf_apply : sumOf z t (ix2 R (0 : Fin 1)) = total (row z R) (t (ix2 R (0 : Fin 1))) := by
  have e := pickEntry_apply z t R
  unfold sumOf
  generalize select (over z t) z _ = w at e ⊢
  pointwise
  exact Finset.sum_congr rfl fun k _ => e k

/-- The count above the threshold, at a row. -/
theorem countOf_apply : countOf z t (ix2 R (0 : Fin 1)) = number (row z R) (t (ix2 R (0 : Fin 1))) := by
  have e := pickOne_apply z t R
  unfold countOf
  generalize id (select (over z t) _ _) = w at e ⊢
  pointwise
  exact Finset.sum_congr rfl fun k _ => e k

/-- The largest entry, at a row. -/
theorem rowTop_apply : rowTop z (ix2 R (0 : Fin 1)) = top (row z R) := by
  unfold rowTop
  pointwise
  unfold top row
  rw [ofBits_bot]

/-- An array less one, at a row. -/
theorem sub_ones_apply (w : FVec Ideal S128x1 .f32) : subf w ones (ix2 R (0 : Fin 1)) = w (ix2 R (0 : Fin 1)) - 1 := by
  rw [← Ideal.ofBits_one_f32]
  unfold ones
  pointwise

/-- Where the steps start, at a row. -/
theorem start_apply : start z (ix2 R (0 : Fin 1)) = top (row z R) - 1 := by
  rw [← rowTop_apply]
  exact sub_ones_apply R (rowTop z)

/-- A Newton step, at a row. -/
theorem step_apply : step z t (ix2 R (0 : Fin 1))
    = Ideal.div (total (row z R) (t (ix2 R (0 : Fin 1))) - 1) (number (row z R) (t (ix2 R (0 : Fin 1)))) := by
  rw [← sumOf_apply, ← countOf_apply, ← Ideal.ofBits_one_f32]
  unfold step ones
  pointwise

/-- At a real threshold below the top the Newton step is the real row's. -/
theorem step_real {y : Fin 32768 → ℝ} {p : ℝ} (hs : Same (row z R) y p) (hp : IsTop y p) (n : ℕ)
    (ht : t (ix2 R (0 : Fin 1)) = ((iter y p n : ℝ) : EReal)) :
    step z t (ix2 R (0 : Fin 1)) = ((iter y p (n + 1) : ℝ) : EReal) := by
  rw [step_apply, ht, hs.newton_eq (start_le_iter hp n) hp (iter_lt hp n)]
  rfl

/-- The test of a row's top, for any tops and starts. -/
theorem inRange_apply (a w : FVec Ideal S128x1 .f32) :
    andi (cmpf .oge a (broadcastInDim S128x1 ![] bcast_S_S128x1 (constant (F := Ideal) S_ .f32 0xFF7FC99E#32)))
      (cmpf .olt w (broadcastInDim S128x1 ![] bcast_S_S128x1 (constant (F := Ideal) S_ .f32 0x7F800000#32)))
      (ix2 R (0 : Fin 1)) = IntOp.andi (BitVec.ofBool (decide (RowIdeal.floor ≤ a (ix2 R (0 : Fin 1)))))
        (BitVec.ofBool (decide (w (ix2 R (0 : Fin 1)) < Ideal.ofBits .f32 0x7F800000#32))) := by
  unfold RowIdeal.floor
  pointwise

/-- The test of an entry, for any row test and any two thresholds. -/
theorem tests_apply (q : IVec S128x1 1) (u v : FVec Ideal S128x1 .f32) (k : Fin 32768) :
    andi (broadcastInDim S128x32768 ![0, 1] bcast_S128x1_S128x32768_0_1 q)
      (ori (cmpf .ole z (broadcastInDim S128x32768 ![0, 1] bcast_S128x1_S128x32768_0_1 u))
        (cmpf .oge z (broadcastInDim S128x32768 ![0, 1] bcast_S128x1_S128x32768_0_1 v))) (ix2 R k)
      = IntOp.andi (q (ix2 R (0 : Fin 1))) (IntOp.ori (BitVec.ofBool (decide (z (ix2 R k) ≤ u (ix2 R (0 : Fin 1)))))
        (BitVec.ofBool (decide (v (ix2 R (0 : Fin 1)) ≤ z (ix2 R k))))) := by
  pointwise

/-- What the verdict says of an entry. -/
theorem verdict_apply (k : Fin 32768) (h : verdict z t (ix2 R k) = 1#1) :
    RowIdeal.floor ≤ top (row z R) - 1 ∧ top (row z R) < ⊤
      ∧ (row z R k ≤ t (ix2 R (0 : Fin 1)) ∨ step z t (ix2 R (0 : Fin 1)) ≤ row z R k) := by
  rw [verdict, tests_apply, inRange, inRange_apply, sub_ones_apply, and_iff, and_iff, or_iff, decided_iff, decided_iff,
    decided_iff, decided_iff, rowTop_apply, ofBits_top] at h
  exact ⟨h.1.1, h.1.2, h.2⟩

/-- Under the precondition, row by row: one real row stands for the reference's row and for the kernel's, and its sixth
Newton iterate is the exact threshold. -/
theorem exact_row (x : FVec Ideal S128x32768 .f32) (b : IVec S128x32768 1) (h : fn (F := Ideal) x b = fun _ => 1#1)
    (R : Fin 128) : ∃ (y : Fin 32768 → ℝ) (p : ℝ), IsTop y p ∧ excess y (iter y p 6) = 1
      ∧ Same (maskedRow (fun k => x (ix2 R k)) (fun k => b (ix2 R k)) ⊥) y p
      ∧ Same (maskedRow (fun k => x (ix2 R k)) (fun k => b (ix2 R k)) RowIdeal.floor) y p
      ∧ top (maskedRow (fun k => x (ix2 R k)) (fun k => b (ix2 R k)) RowIdeal.floor) = (p : EReal) := by
  rw [fn_eq] at h
  have hk := fun k => verdict_apply _ _ R k (congrFun h (ix2 R k))
  obtain ⟨h1, h2, _⟩ := hk ⟨0, by norm_num⟩
  have hrow := row_masked x b R
  rw [hrow] at h1 h2
  obtain ⟨y, p, e1, e2, hp, hs, hs'⟩ := exists_row _ _ h1 h2
  refine ⟨y, p, hp, ?_, hs, hs', e2⟩
  rw [← hrow] at e1
  have hsz : Same (row (masked x b) R) y p := hrow.symm ▸ hs
  have t0 : start (masked x b) (ix2 R (0 : Fin 1)) = ((iter y p 0 : ℝ) : EReal) := by
    rw [start_apply, e1, one_coe, ← EReal.coe_sub]
    rfl
  have t5 := step_real _ _ R hsz hp 4 (step_real _ _ R hsz hp 3 (step_real _ _ R hsz hp 2 (step_real _ _ R hsz hp 1
    (step_real _ _ R hsz hp 0 t0))))
  have t6 := step_real _ _ R hsz hp 5 t5
  refine excess_of_settled hp 5 fun i => ?_
  have hi := (hk i).2.2
  rw [t5, t6] at hi
  rcases hsz i with e | ⟨_, e⟩
  · rw [e, EReal.coe_le_coe_iff, EReal.coe_le_coe_iff] at hi
    exact hi
  · exact Or.inl (e.trans (start_le_iter hp 5))

end Cert.Pre_settled.Stages

end
-- ==== Proof.Equation.lean ====
module

public import proofs.«01_k».proof.Proof.KernelArray
public import proofs.«01_k».proof.Proof.RefThreshold
public import proofs.«01_k».proof.Proof.PreRow

@[expose] public section

set_option maxRecDepth 16384

/-! # The kernel's array is the reference's

`arrays_eq`: under the precondition, from the same scores and mask, the array the kernel leaves is the array the
reference leaves. -/

noncomputable section

namespace Cert.Equation

open Idealize.ShloMosaic Idealize.ShloMosaic.TcCoe Cert.RowMath Cert.RowIdeal

/-- At an entry the reference's result is what the real row has over its exact threshold. -/
theorem reference_apply (x : FVec Ideal ReferenceIdeal.S128x32768 .f32) (b : IVec ReferenceIdeal.S128x32768 1)
    (y : Fin 128 → Fin 32768 → ℝ) (p : Fin 128 → ℝ) (hp : ∀ R, IsTop (y R) (p R))
    (he : ∀ R, excess (y R) (iter (y R) (p R) 6) = 1)
    (hs : ∀ R, Same (maskedRow (fun k => x (ix2 R k)) (fun k => b (ix2 R k)) ⊥) (y R) (p R))
    (R : Fin 128) (k : Fin 32768) (z : FVec Ideal ReferenceIdeal.S128x32768 .f32)
    (hz : z = ReferenceIdeal.Stages.masked x b) :
    ReferenceIdeal.Stages.result z (ReferenceIdeal.Stages.threshold
        (ReferenceIdeal.Stages.sums (ReferenceIdeal.Stages.sorted z))
        (ReferenceIdeal.Stages.size (ReferenceIdeal.Stages.sorted z))) (ix2 R k)
      = ((max (y R k - iter (y R) (p R) 6) 0 : ℝ) : EReal) := by
  have hrow : ∀ R, Same (ReferenceIdeal.Stages.row z R) (y R) (p R) := fun R => by
    rw [hz, ReferenceIdeal.Stages.row_masked]
    exact hs R
  rw [ReferenceIdeal.Stages.result_apply, ReferenceIdeal.Stages.threshold_real z y p (fun R => iter (y R) (p R) 6) hrow hp
    he (fun R => start_le_iter (hp R) 6) R]
  exact (hrow R).rest_eq (start_le_iter (hp R) 6) k

/-- Under the precondition the kernel's array is the reference's. -/
theorem arrays_eq [Pre_settled.Facts]
    (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (h : Pre_settled.fn (F := Ideal) (KernelIdeal.Block.scores m c) (KernelIdeal.Block.mask m c) = fun _ => 1#1)
    (h0 : (m' ((c.tc : Thread ReferenceIdeal.nD ReferenceIdeal.τ).loc ReferenceIdeal.main_arg0) :
      FVec Ideal ReferenceIdeal.S128x32768 .f32) = KernelIdeal.Block.scores m c)
    (h1 : (m' ((c.tc : Thread ReferenceIdeal.nD ReferenceIdeal.τ).loc ReferenceIdeal.main_arg1) :
      IVec ReferenceIdeal.S128x32768 1) = KernelIdeal.Block.mask m c) :
    (ReferenceIdeal.Value.res_main_v27 m' c : FVec Ideal ReferenceIdeal.S128x32768 .f32)
      = (KernelIdeal.Gen.dats m 0 c).arrAt 2 KernelIdeal.cfg0.N := by
  choose y p hp he hs hs' htop using Pre_settled.Stages.exact_row _ _ h
  have hK := KernelIdeal.Block.final_array m c (fun R => ((iter (y R) (p R) 6 : ℝ) : EReal)) fun z r R e =>
    KernelIdeal.Block.final_real z r (hp R) (he R) (e ▸ hs' R) (e ▸ htop R)
  rw [hK, ReferenceIdeal.Stages.out_eq m' c _ rfl, h0, h1]
  funext i
  obtain ⟨R, k, rfl⟩ : ∃ (R : Fin 128) (k : Fin 32768), i = ix2 R k := ⟨i 0, i 1, eq_ix2 i⟩
  refine (reference_apply _ _ y p hp he hs R k _ rfl).trans ?_
  exact ((hs' R).rest_eq (start_le_iter (hp R) 6) k).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_settled
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were and every semaphore at zero. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m g)

/-- Under the precondition the kernel and the reference run and leave the same array. -/
theorem kernel_is_reference : Cert.algebraic_KernelIdeal_ReferenceIdeal_pre_settled := by
  intro m g m' g' h agree
  refine ⟨fun c => (Cert.KernelIdeal.Gen.dats m 0 c).arrAt 2 Cert.KernelIdeal.cfg0.N,
    Cert.KernelIdeal.Value.run_blocks (F := Ideal) m g, ?_⟩
  refine (θ_run Cert.ReferenceIdeal.defs _ _).mono (fun r hr c => ⟨(hr c).1.trans ?_, (hr c).2.1, (hr c).2.2⟩)
    (Cert.ReferenceIdeal.Value.run (F := Ideal) m' g')
  exact Cert.Equation.arrays_eq m m' c (h c) (agree c).1 (agree c).2

/-- Everything claimed. -/
theorem claim : Cert.Claim := ⟨Cert.Kernel.Gen.facts, Cert.KernelIdeal.Gen.facts, Cert.ReferenceIdeal.Gen.facts,
  Cert.Pre_settled.Gen.facts, fun m g _ => Cert.Kernel.Gen.frame m g, fun m g _ => Cert.KernelIdeal.Gen.frame m g,
  fun m g _ => Cert.KernelIdeal.Gen.frame m g, fun m g _ => reference_runs m g, fun m g _ => reference_runs m g,
  trivial, kernel_is_reference⟩

end Cert.Proof

end
